-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_scores [hPre_finite_scores : Cert.Pre_finite_scores.Facts] (m : (ℓ : Loc Cert.AttnIdeal.nD Cert.AttnIdeal.τ Cert.AttnIdeal.sig) → Buf (Elt Ideal) ℓ) : Prop :=
  ∀ c : Dev Cert.AttnIdeal.nD,
    (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9)) (m ((c.tc : Thread Cert.AttnIdeal.nD Cert.AttnIdeal.τ).loc Cert.AttnIdeal.main_arg10))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_scores [hPre_finite_scores : Cert.Pre_finite_scores.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8)) (m ((c.tc : Thread Cert.AttnRefIdeal.nD Cert.AttnRefIdeal.τ).loc Cert.AttnRefIdeal.main_arg9)) (m ((c.tc : Thread Cert.AttnRefIdeal.nD Cert.AttnRefIdeal.τ).loc Cert.AttnRefIdeal.main_arg10))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Ctx (m : (ℓ : Loc Cert.Ctx.nD Cert.Ctx.τ Cert.Ctx.sig) → Buf (Elt Bits) ℓ) : Prop :=
  True

def Pre_CtxIdeal (m : (ℓ : Loc Cert.CtxIdeal.nD Cert.CtxIdeal.τ Cert.CtxIdeal.sig) → Buf (Elt Ideal) ℓ) : Prop :=
  True

def Pre_CtxRefIdeal (m : (ℓ : Loc Cert.CtxRefIdeal.nD Cert.CtxRefIdeal.τ Cert.CtxRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModIdeal_finite_products [hPre_finite_products : Cert.Pre_finite_products.Facts] (m : (ℓ : Loc Cert.ModIdeal.nD Cert.ModIdeal.τ Cert.ModIdeal.sig) → Buf (Elt Ideal) ℓ) : Prop :=
  ∀ c : Dev Cert.ModIdeal.nD,
    (Cert.Pre_finite_products.fn (F := Ideal) (m ((c.tc : Thread Cert.ModIdeal.nD Cert.ModIdeal.τ).loc Cert.ModIdeal.main_arg0)) (m ((c.tc : Thread Cert.ModIdeal.nD Cert.ModIdeal.τ).loc Cert.ModIdeal.main_arg1)) (m ((c.tc : Thread Cert.ModIdeal.nD Cert.ModIdeal.τ).loc Cert.ModIdeal.main_arg2)) (m ((c.tc : Thread Cert.ModIdeal.nD Cert.ModIdeal.τ).loc Cert.ModIdeal.main_arg3))) = (fun _ => 1#1)

def Pre_ModRefIdeal (m : (ℓ : Loc Cert.ModRefIdeal.nD Cert.ModRefIdeal.τ Cert.ModRefIdeal.sig) → Buf (Elt Ideal) ℓ) : Prop :=
  True

def Pre_ModRefIdeal_finite_products [hPre_finite_products : Cert.Pre_finite_products.Facts] (m : (ℓ : Loc Cert.ModRefIdeal.nD Cert.ModRefIdeal.τ Cert.ModRefIdeal.sig) → Buf (Elt Ideal) ℓ) : Prop :=
  ∀ c : Dev Cert.ModRefIdeal.nD,
    (Cert.Pre_finite_products.fn (F := Ideal) (m ((c.tc : Thread Cert.ModRefIdeal.nD Cert.ModRefIdeal.τ).loc Cert.ModRefIdeal.main_arg0)) (m ((c.tc : Thread Cert.ModRefIdeal.nD Cert.ModRefIdeal.τ).loc Cert.ModRefIdeal.main_arg1)) (m ((c.tc : Thread Cert.ModRefIdeal.nD Cert.ModRefIdeal.τ).loc Cert.ModRefIdeal.main_arg2)) (m ((c.tc : Thread Cert.ModRefIdeal.nD Cert.ModRefIdeal.τ).loc Cert.ModRefIdeal.main_arg3))) = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7)
      ∧ r.2.mem ((c.tc : Thread Cert.Attn.nD Cert.Attn.τ).loc Cert.Attn.main_arg8) = m ((c.tc : Thread Cert.Attn.nD Cert.Attn.τ).loc Cert.Attn.main_arg8)
      ∧ r.2.mem ((c.tc : Thread Cert.Attn.nD Cert.Attn.τ).loc Cert.Attn.main_arg9) = m ((c.tc : Thread Cert.Attn.nD Cert.Attn.τ).loc Cert.Attn.main_arg9)
      ∧ r.2.mem ((c.tc : Thread Cert.Attn.nD Cert.Attn.τ).loc Cert.Attn.main_arg10) = m ((c.tc : Thread Cert.Attn.nD Cert.Attn.τ).loc Cert.Attn.main_arg10))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8)
      ∧ r.2.mem ((c.tc : Thread Cert.AttnIdeal.nD Cert.AttnIdeal.τ).loc Cert.AttnIdeal.main_arg9) = m ((c.tc : Thread Cert.AttnIdeal.nD Cert.AttnIdeal.τ).loc Cert.AttnIdeal.main_arg9)
      ∧ r.2.mem ((c.tc : Thread Cert.AttnIdeal.nD Cert.AttnIdeal.τ).loc Cert.AttnIdeal.main_arg10) = m ((c.tc : Thread Cert.AttnIdeal.nD Cert.AttnIdeal.τ).loc Cert.AttnIdeal.main_arg10))
      ∧ r.2.sem = fun _ => 0)

def quiescent_AttnIdeal_pre_finite_scores [hAttnIdeal : Cert.AttnIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_scores m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8)
      ∧ r.2.mem ((c.tc : Thread Cert.AttnIdeal.nD Cert.AttnIdeal.τ).loc Cert.AttnIdeal.main_arg9) = m ((c.tc : Thread Cert.AttnIdeal.nD Cert.AttnIdeal.τ).loc Cert.AttnIdeal.main_arg9)
      ∧ r.2.mem ((c.tc : Thread Cert.AttnIdeal.nD Cert.AttnIdeal.τ).loc Cert.AttnIdeal.main_arg10) = m ((c.tc : Thread Cert.AttnIdeal.nD Cert.AttnIdeal.τ).loc Cert.AttnIdeal.main_arg10))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7)
      ∧ r.2.mem ((c.tc : Thread Cert.AttnRefIdeal.nD Cert.AttnRefIdeal.τ).loc Cert.AttnRefIdeal.main_arg8) = m ((c.tc : Thread Cert.AttnRefIdeal.nD Cert.AttnRefIdeal.τ).loc Cert.AttnRefIdeal.main_arg8)
      ∧ r.2.mem ((c.tc : Thread Cert.AttnRefIdeal.nD Cert.AttnRefIdeal.τ).loc Cert.AttnRefIdeal.main_arg9) = m ((c.tc : Thread Cert.AttnRefIdeal.nD Cert.AttnRefIdeal.τ).loc Cert.AttnRefIdeal.main_arg9)
      ∧ r.2.mem ((c.tc : Thread Cert.AttnRefIdeal.nD Cert.AttnRefIdeal.τ).loc Cert.AttnRefIdeal.main_arg10) = m ((c.tc : Thread Cert.AttnRefIdeal.nD Cert.AttnRefIdeal.τ).loc Cert.AttnRefIdeal.main_arg10))
      ∧ r.2.sem = fun _ => 0)

def quiescent_AttnRefIdeal_pre_finite_scores [hAttnRefIdeal : Cert.AttnRefIdeal.Facts] [hPre_finite_scores : Cert.Pre_finite_scores.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_scores m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7)
      ∧ r.2.mem ((c.tc : Thread Cert.AttnRefIdeal.nD Cert.AttnRefIdeal.τ).loc Cert.AttnRefIdeal.main_arg8) = m ((c.tc : Thread Cert.AttnRefIdeal.nD Cert.AttnRefIdeal.τ).loc Cert.AttnRefIdeal.main_arg8)
      ∧ r.2.mem ((c.tc : Thread Cert.AttnRefIdeal.nD Cert.AttnRefIdeal.τ).loc Cert.AttnRefIdeal.main_arg9) = m ((c.tc : Thread Cert.AttnRefIdeal.nD Cert.AttnRefIdeal.τ).loc Cert.AttnRefIdeal.main_arg9)
      ∧ r.2.mem ((c.tc : Thread Cert.AttnRefIdeal.nD Cert.AttnRefIdeal.τ).loc Cert.AttnRefIdeal.main_arg10) = m ((c.tc : Thread Cert.AttnRefIdeal.nD Cert.AttnRefIdeal.τ).loc Cert.AttnRefIdeal.main_arg10))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5)
      ∧ r.2.mem ((c.tc : Thread Cert.Conv.nD Cert.Conv.τ).loc Cert.Conv.main_arg6) = m ((c.tc : Thread Cert.Conv.nD Cert.Conv.τ).loc Cert.Conv.main_arg6))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
      ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5)
      ∧ r.2.mem ((c.tc : Thread Cert.ConvRefIdeal.nD Cert.ConvRefIdeal.τ).loc Cert.ConvRefIdeal.main_arg6) = m ((c.tc : Thread Cert.ConvRefIdeal.nD Cert.ConvRefIdeal.τ).loc Cert.ConvRefIdeal.main_arg6))
      ∧ r.2.sem = fun _ => 0)

def quiescent_Ctx [hCtx : Cert.Ctx.Facts] : Prop :=
  ∀ (m : (ℓ : Loc Cert.Ctx.nD Cert.Ctx.τ Cert.Ctx.sig) → Buf (Elt Bits) ℓ) (g : Dev Cert.Ctx.nD → PrngReg), Pre_Ctx m →
    θ_run (Cert.Ctx.defs (F := Bits)) (onTc (τ := Cert.Ctx.τ) (Cert.Ctx.main (F := Bits))) ⟨m, fun _ => 0, g⟩ (fun r => (∀ c : Dev Cert.Ctx.nD,
      r.2.mem ((c.tc : Thread Cert.Ctx.nD Cert.Ctx.τ).loc Cert.Ctx.main_arg0) = m ((c.tc : Thread Cert.Ctx.nD Cert.Ctx.τ).loc Cert.Ctx.main_arg0)
      ∧ r.2.mem ((c.tc : Thread Cert.Ctx.nD Cert.Ctx.τ).loc Cert.Ctx.main_arg1) = m ((c.tc : Thread Cert.Ctx.nD Cert.Ctx.τ).loc Cert.Ctx.main_arg1)
      ∧ r.2.mem ((c.tc : Thread Cert.Ctx.nD Cert.Ctx.τ).loc Cert.Ctx.main_arg2) = m ((c.tc : Thread Cert.Ctx.nD Cert.Ctx.τ).loc Cert.Ctx.main_arg2)
      ∧ r.2.mem ((c.tc : Thread Cert.Ctx.nD Cert.Ctx.τ).loc Cert.Ctx.main_arg3) = m ((c.tc : Thread Cert.Ctx.nD Cert.Ctx.τ).loc Cert.Ctx.main_arg3))
      ∧ r.2.sem = fun _ => 0)

def quiescent_CtxIdeal [hCtxIdeal : Cert.CtxIdeal.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
      ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
      ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2)
      ∧ r.2.mem ((c.tc : Thread Cert.CtxIdeal.nD Cert.CtxIdeal.τ).loc Cert.CtxIdeal.main_arg3) = m ((c.tc : Thread Cert.CtxIdeal.nD Cert.CtxIdeal.τ).loc Cert.CtxIdeal.main_arg3))
      ∧ r.2.sem = fun _ => 0)

def quiescent_CtxRefIdeal [hCtxRefIdeal : Cert.CtxRefIdeal.Facts] : Prop :=
  ∀ (m : (ℓ : Loc Cert.CtxRefIdeal.nD Cert.CtxRefIdeal.τ Cert.CtxRefIdeal.sig) → Buf (Elt Ideal) ℓ) (g : Dev Cert.CtxRefIdeal.nD → PrngReg), Pre_CtxRefIdeal m →
    θ_run (Cert.CtxRefIdeal.defs (F := Ideal)) (onTc (τ := Cert.CtxRefIdeal.τ) (Cert.CtxRefIdeal.main (F := Ideal))) ⟨m, fun _ => 0, g⟩ (fun r => (∀ c : Dev Cert.CtxRefIdeal.nD,
      r.2.mem ((c.tc : Thread Cert.CtxRefIdeal.nD Cert.CtxRefIdeal.τ).loc Cert.CtxRefIdeal.main_arg0) = m ((c.tc : Thread Cert.CtxRefIdeal.nD Cert.CtxRefIdeal.τ).loc Cert.CtxRefIdeal.main_arg0)
      ∧ r.2.mem ((c.tc : Thread Cert.CtxRefIdeal.nD Cert.CtxRefIdeal.τ).loc Cert.CtxRefIdeal.main_arg1) = m ((c.tc : Thread Cert.CtxRefIdeal.nD Cert.CtxRefIdeal.τ).loc Cert.CtxRefIdeal.main_arg1)
      ∧ r.2.mem ((c.tc : Thread Cert.CtxRefIdeal.nD Cert.CtxRefIdeal.τ).loc Cert.CtxRefIdeal.main_arg2) = m ((c.tc : Thread Cert.CtxRefIdeal.nD Cert.CtxRefIdeal.τ).loc Cert.CtxRefIdeal.main_arg2)
      ∧ r.2.mem ((c.tc : Thread Cert.CtxRefIdeal.nD Cert.CtxRefIdeal.τ).loc Cert.CtxRefIdeal.main_arg3) = m ((c.tc : Thread Cert.CtxRefIdeal.nD Cert.CtxRefIdeal.τ).loc Cert.CtxRefIdeal.main_arg3))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ r.2.sem = fun _ => 0)

def quiescent_ModIdeal_pre_finite_products [hModIdeal : Cert.ModIdeal.Facts] [hPre_finite_products : Cert.Pre_finite_products.Facts] : Prop :=
  ∀ (m : (ℓ : Loc Cert.ModIdeal.nD Cert.ModIdeal.τ Cert.ModIdeal.sig) → Buf (Elt Ideal) ℓ) (g : Dev Cert.ModIdeal.nD → PrngReg), Pre_ModIdeal_finite_products m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3))
      ∧ r.2.sem = fun _ => 0)

def quiescent_ModRefIdeal_pre_finite_products [hModRefIdeal : Cert.ModRefIdeal.Facts] [hPre_finite_products : Cert.Pre_finite_products.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal_finite_products m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3))
      ∧ r.2.sem = fun _ => 0)

def preserves_Attn_AttnIdeal : Prop :=
  IdealRules.named_const.Statement Cert.AttnIdeal.κ "mask" .f32 0xF149F2CA#32 ⊥

def algebraic_AttnIdeal_AttnRefIdeal_pre_finite_scores [hAttnIdeal : Cert.AttnIdeal.Facts] [hAttnRefIdeal : Cert.AttnRefIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_scores m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)
      ∧ m' ((c.tc : Thread Cert.AttnRefIdeal.nD Cert.AttnRefIdeal.τ).loc Cert.AttnRefIdeal.main_arg7) = m ((c.tc : Thread Cert.AttnIdeal.nD Cert.AttnIdeal.τ).loc Cert.AttnIdeal.main_arg7)
      ∧ m' ((c.tc : Thread Cert.AttnRefIdeal.nD Cert.AttnRefIdeal.τ).loc Cert.AttnRefIdeal.main_arg8) = m ((c.tc : Thread Cert.AttnIdeal.nD Cert.AttnIdeal.τ).loc Cert.AttnIdeal.main_arg8)
      ∧ m' ((c.tc : Thread Cert.AttnRefIdeal.nD Cert.AttnRefIdeal.τ).loc Cert.AttnRefIdeal.main_arg9) = m ((c.tc : Thread Cert.AttnIdeal.nD Cert.AttnIdeal.τ).loc Cert.AttnIdeal.main_arg9)
      ∧ m' ((c.tc : Thread Cert.AttnRefIdeal.nD Cert.AttnRefIdeal.τ).loc Cert.AttnRefIdeal.main_arg10) = m ((c.tc : Thread Cert.AttnIdeal.nD Cert.AttnIdeal.τ).loc Cert.AttnIdeal.main_arg10)) →
    ∃ (v0 : (c : Dev Cert.AttnIdeal.nD) → Buf (Elt Ideal) ((c.tc : Thread Cert.AttnIdeal.nD Cert.AttnIdeal.τ).loc Cert.AttnIdeal.main_v4)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v4) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
          ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8)
          ∧ r.2.mem ((c.tc : Thread Cert.AttnIdeal.nD Cert.AttnIdeal.τ).loc Cert.AttnIdeal.main_arg9) = m ((c.tc : Thread Cert.AttnIdeal.nD Cert.AttnIdeal.τ).loc Cert.AttnIdeal.main_arg9)
          ∧ r.2.mem ((c.tc : Thread Cert.AttnIdeal.nD Cert.AttnIdeal.τ).loc Cert.AttnIdeal.main_arg10) = m ((c.tc : Thread Cert.AttnIdeal.nD Cert.AttnIdeal.τ).loc Cert.AttnIdeal.main_arg10))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v115) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6)
          ∧ r.2.mem ((c.tc : Thread Cert.AttnRefIdeal.nD Cert.AttnRefIdeal.τ).loc Cert.AttnRefIdeal.main_arg7) = m' ((c.tc : Thread Cert.AttnRefIdeal.nD Cert.AttnRefIdeal.τ).loc Cert.AttnRefIdeal.main_arg7)
          ∧ r.2.mem ((c.tc : Thread Cert.AttnRefIdeal.nD Cert.AttnRefIdeal.τ).loc Cert.AttnRefIdeal.main_arg8) = m' ((c.tc : Thread Cert.AttnRefIdeal.nD Cert.AttnRefIdeal.τ).loc Cert.AttnRefIdeal.main_arg8)
          ∧ r.2.mem ((c.tc : Thread Cert.AttnRefIdeal.nD Cert.AttnRefIdeal.τ).loc Cert.AttnRefIdeal.main_arg9) = m' ((c.tc : Thread Cert.AttnRefIdeal.nD Cert.AttnRefIdeal.τ).loc Cert.AttnRefIdeal.main_arg9)
          ∧ r.2.mem ((c.tc : Thread Cert.AttnRefIdeal.nD Cert.AttnRefIdeal.τ).loc Cert.AttnRefIdeal.main_arg10) = m' ((c.tc : Thread Cert.AttnRefIdeal.nD Cert.AttnRefIdeal.τ).loc Cert.AttnRefIdeal.main_arg10))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v58) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)
      ∧ m' ((c.tc : Thread Cert.ConvRefIdeal.nD Cert.ConvRefIdeal.τ).loc Cert.ConvRefIdeal.main_arg5) = m ((c.tc : Thread Cert.ConvIdeal.nD Cert.ConvIdeal.τ).loc Cert.ConvIdeal.main_arg5)
      ∧ m' ((c.tc : Thread Cert.ConvRefIdeal.nD Cert.ConvRefIdeal.τ).loc Cert.ConvRefIdeal.main_arg6) = m ((c.tc : Thread Cert.ConvIdeal.nD Cert.ConvIdeal.τ).loc Cert.ConvIdeal.main_arg6)) →
    ∃ (v0 : (c : Dev Cert.ConvIdeal.nD) → Buf (Elt Ideal) ((c.tc : Thread Cert.ConvIdeal.nD Cert.ConvIdeal.τ).loc Cert.ConvIdeal.main_v9)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v9) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
          ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v78) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4)
          ∧ r.2.mem ((c.tc : Thread Cert.ConvRefIdeal.nD Cert.ConvRefIdeal.τ).loc Cert.ConvRefIdeal.main_arg5) = m' ((c.tc : Thread Cert.ConvRefIdeal.nD Cert.ConvRefIdeal.τ).loc Cert.ConvRefIdeal.main_arg5)
          ∧ r.2.mem ((c.tc : Thread Cert.ConvRefIdeal.nD Cert.ConvRefIdeal.τ).loc Cert.ConvRefIdeal.main_arg6) = m' ((c.tc : Thread Cert.ConvRefIdeal.nD Cert.ConvRefIdeal.τ).loc Cert.ConvRefIdeal.main_arg6))

def preserves_Ctx_CtxIdeal : Prop :=
  True

def algebraic_CtxIdeal_CtxRefIdeal [hCtxIdeal : Cert.CtxIdeal.Facts] [hCtxRefIdeal : Cert.CtxRefIdeal.Facts] : Prop :=
  ∀ (m : (ℓ : Loc Cert.CtxIdeal.nD Cert.CtxIdeal.τ Cert.CtxIdeal.sig) → Buf (Elt Ideal) ℓ) (g : Dev Cert.CtxIdeal.nD → PrngReg)
    (m' : (ℓ : Loc Cert.CtxRefIdeal.nD Cert.CtxRefIdeal.τ Cert.CtxRefIdeal.sig) → Buf (Elt Ideal) ℓ) (g' : Dev Cert.CtxRefIdeal.nD → PrngReg), Pre_CtxIdeal m →
    (∀ c : Dev Cert.CtxIdeal.nD,
      m' ((c.tc : Thread Cert.CtxRefIdeal.nD Cert.CtxRefIdeal.τ).loc Cert.CtxRefIdeal.main_arg0) = m ((c.tc : Thread Cert.CtxIdeal.nD Cert.CtxIdeal.τ).loc Cert.CtxIdeal.main_arg0)
      ∧ m' ((c.tc : Thread Cert.CtxRefIdeal.nD Cert.CtxRefIdeal.τ).loc Cert.CtxRefIdeal.main_arg1) = m ((c.tc : Thread Cert.CtxIdeal.nD Cert.CtxIdeal.τ).loc Cert.CtxIdeal.main_arg1)
      ∧ m' ((c.tc : Thread Cert.CtxRefIdeal.nD Cert.CtxRefIdeal.τ).loc Cert.CtxRefIdeal.main_arg2) = m ((c.tc : Thread Cert.CtxIdeal.nD Cert.CtxIdeal.τ).loc Cert.CtxIdeal.main_arg2)
      ∧ m' ((c.tc : Thread Cert.CtxRefIdeal.nD Cert.CtxRefIdeal.τ).loc Cert.CtxRefIdeal.main_arg3) = m ((c.tc : Thread Cert.CtxIdeal.nD Cert.CtxIdeal.τ).loc Cert.CtxIdeal.main_arg3)) →
    ∃ (v0 : (c : Dev Cert.CtxIdeal.nD) → Buf (Elt Ideal) ((c.tc : Thread Cert.CtxIdeal.nD Cert.CtxIdeal.τ).loc Cert.CtxIdeal.main_v4_0)) (v1 : (c : Dev Cert.CtxIdeal.nD) → Buf (Elt Ideal) ((c.tc : Thread Cert.CtxIdeal.nD Cert.CtxIdeal.τ).loc Cert.CtxIdeal.main_v4_1)),
      θ_run (Cert.CtxIdeal.defs (F := Ideal)) (onTc (τ := Cert.CtxIdeal.τ) (Cert.CtxIdeal.main (F := Ideal))) ⟨m, fun _ => 0, g⟩ (fun r => ∀ c : Dev Cert.CtxIdeal.nD,
          r.2.mem ((c.tc : Thread Cert.CtxIdeal.nD Cert.CtxIdeal.τ).loc Cert.CtxIdeal.main_v4_0) = v0 c
          ∧ r.2.mem ((c.tc : Thread Cert.CtxIdeal.nD Cert.CtxIdeal.τ).loc Cert.CtxIdeal.main_v4_1) = v1 c
          ∧ r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
          ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
          ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2)
          ∧ r.2.mem ((c.tc : Thread Cert.CtxIdeal.nD Cert.CtxIdeal.τ).loc Cert.CtxIdeal.main_arg3) = m ((c.tc : Thread Cert.CtxIdeal.nD Cert.CtxIdeal.τ).loc Cert.CtxIdeal.main_arg3))
      ∧ θ_run (Cert.CtxRefIdeal.defs (F := Ideal)) (onTc (τ := Cert.CtxRefIdeal.τ) (Cert.CtxRefIdeal.main (F := Ideal))) ⟨m', fun _ => 0, g'⟩ (fun r => ∀ c : Dev Cert.CtxRefIdeal.nD,
          r.2.mem ((c.tc : Thread Cert.CtxRefIdeal.nD Cert.CtxRefIdeal.τ).loc Cert.CtxRefIdeal.main_v32) = v0 c
          ∧ r.2.mem ((c.tc : Thread Cert.CtxRefIdeal.nD Cert.CtxRefIdeal.τ).loc Cert.CtxRefIdeal.main_v33) = v1 c
          ∧ r.2.mem ((c.tc : Thread Cert.CtxRefIdeal.nD Cert.CtxRefIdeal.τ).loc Cert.CtxRefIdeal.main_arg0) = m' ((c.tc : Thread Cert.CtxRefIdeal.nD Cert.CtxRefIdeal.τ).loc Cert.CtxRefIdeal.main_arg0)
          ∧ r.2.mem ((c.tc : Thread Cert.CtxRefIdeal.nD Cert.CtxRefIdeal.τ).loc Cert.CtxRefIdeal.main_arg1) = m' ((c.tc : Thread Cert.CtxRefIdeal.nD Cert.CtxRefIdeal.τ).loc Cert.CtxRefIdeal.main_arg1)
          ∧ r.2.mem ((c.tc : Thread Cert.CtxRefIdeal.nD Cert.CtxRefIdeal.τ).loc Cert.CtxRefIdeal.main_arg2) = m' ((c.tc : Thread Cert.CtxRefIdeal.nD Cert.CtxRefIdeal.τ).loc Cert.CtxRefIdeal.main_arg2)
          ∧ r.2.mem ((c.tc : Thread Cert.CtxRefIdeal.nD Cert.CtxRefIdeal.τ).loc Cert.CtxRefIdeal.main_arg3) = m' ((c.tc : Thread Cert.CtxRefIdeal.nD Cert.CtxRefIdeal.τ).loc Cert.CtxRefIdeal.main_arg3))

def preserves_Mod_ModIdeal : Prop :=
  True

def algebraic_ModIdeal_ModRefIdeal_pre_finite_products [hModIdeal : Cert.ModIdeal.Facts] [hModRefIdeal : Cert.ModRefIdeal.Facts] [hPre_finite_products : Cert.Pre_finite_products.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal_finite_products m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)
      ∧ m' ((c.tc : Thread Cert.ModRefIdeal.nD Cert.ModRefIdeal.τ).loc Cert.ModRefIdeal.main_arg3) = m ((c.tc : Thread Cert.ModIdeal.nD Cert.ModIdeal.τ).loc Cert.ModIdeal.main_arg3)) →
    ∃ (v0 : (c : Dev Cert.ModIdeal.nD) → Buf (Elt Ideal) ((c.tc : Thread Cert.ModIdeal.nD Cert.ModIdeal.τ).loc Cert.ModIdeal.main_v4)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v4) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v27) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2)
          ∧ r.2.mem ((c.tc : Thread Cert.ModRefIdeal.nD Cert.ModRefIdeal.τ).loc Cert.ModRefIdeal.main_arg3) = m' ((c.tc : Thread Cert.ModRefIdeal.nD Cert.ModRefIdeal.τ).loc Cert.ModRefIdeal.main_arg3))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hConv : Cert.Conv.Facts) (hConvIdeal : Cert.ConvIdeal.Facts) (hConvRefIdeal : Cert.ConvRefIdeal.Facts) (hCtx : Cert.Ctx.Facts) (hCtxIdeal : Cert.CtxIdeal.Facts) (hCtxRefIdeal : Cert.CtxRefIdeal.Facts) (hMod : Cert.Mod.Facts) (hModIdeal : Cert.ModIdeal.Facts) (hModRefIdeal : Cert.ModRefIdeal.Facts) (hPre_finite_scores : Cert.Pre_finite_scores.Facts) (hPre_finite_products : Cert.Pre_finite_products.Facts),
    quiescent_Attn (hAttn := hAttn)
    ∧ quiescent_AttnIdeal (hAttnIdeal := hAttnIdeal)
    ∧ quiescent_AttnIdeal_pre_finite_scores (hAttnIdeal := hAttnIdeal) (hPre_finite_scores := hPre_finite_scores)
    ∧ quiescent_AttnRefIdeal (hAttnRefIdeal := hAttnRefIdeal)
    ∧ quiescent_AttnRefIdeal_pre_finite_scores (hAttnRefIdeal := hAttnRefIdeal) (hPre_finite_scores := hPre_finite_scores)
    ∧ quiescent_Ffn (hFfn := hFfn)
    ∧ quiescent_FfnIdeal (hFfnIdeal := hFfnIdeal)
    ∧ quiescent_FfnRefIdeal (hFfnRefIdeal := hFfnRefIdeal)
    ∧ quiescent_Conv (hConv := hConv)
    ∧ quiescent_ConvIdeal (hConvIdeal := hConvIdeal)
    ∧ quiescent_ConvRefIdeal (hConvRefIdeal := hConvRefIdeal)
    ∧ quiescent_Ctx (hCtx := hCtx)
    ∧ quiescent_CtxIdeal (hCtxIdeal := hCtxIdeal)
    ∧ quiescent_CtxRefIdeal (hCtxRefIdeal := hCtxRefIdeal)
    ∧ quiescent_Mod (hMod := hMod)
    ∧ quiescent_ModIdeal (hModIdeal := hModIdeal)
    ∧ quiescent_ModIdeal_pre_finite_products (hModIdeal := hModIdeal) (hPre_finite_products := hPre_finite_products)
    ∧ quiescent_ModRefIdeal (hModRefIdeal := hModRefIdeal)
    ∧ quiescent_ModRefIdeal_pre_finite_products (hModRefIdeal := hModRefIdeal) (hPre_finite_products := hPre_finite_products)
    ∧ preserves_Attn_AttnIdeal
    ∧ algebraic_AttnIdeal_AttnRefIdeal_pre_finite_scores (hAttnIdeal := hAttnIdeal) (hAttnRefIdeal := hAttnRefIdeal) (hPre_finite_scores := hPre_finite_scores)
    ∧ preserves_Ffn_FfnIdeal
    ∧ algebraic_FfnIdeal_FfnRefIdeal (hFfnIdeal := hFfnIdeal) (hFfnRefIdeal := hFfnRefIdeal)
    ∧ preserves_Conv_ConvIdeal
    ∧ algebraic_ConvIdeal_ConvRefIdeal (hConvIdeal := hConvIdeal) (hConvRefIdeal := hConvRefIdeal)
    ∧ preserves_Ctx_CtxIdeal
    ∧ algebraic_CtxIdeal_CtxRefIdeal (hCtxIdeal := hCtxIdeal) (hCtxRefIdeal := hCtxRefIdeal)
    ∧ preserves_Mod_ModIdeal
    ∧ algebraic_ModIdeal_ModRefIdeal_pre_finite_products (hModIdeal := hModIdeal) (hModRefIdeal := hModRefIdeal) (hPre_finite_products := hPre_finite_products)
-- ==== Pre_finite_products.lean ====
abbrev S2x1024 : Shape := ⟨2, ![2, 1024]⟩
abbrev S1024 : Shape := ⟨1, ![1024]⟩
abbrev S2x1024x6144 : Shape := ⟨3, ![2, 1024, 6144]⟩
abbrev S2x6144 : Shape := ⟨2, ![2, 6144]⟩
abbrev S_ : Shape := ⟨0, ![]⟩

class Facts : Prop where
  bcast_S_S2x1024 : S_.BroadcastsInDim S2x1024 (![] : Fin 0 → Fin S2x1024.rank)
  reducesTo_S2x1024_S_d0_1 : S2x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S2x1024x6144 : S_.BroadcastsInDim S2x1024x6144 (![] : Fin 0 → Fin S2x1024x6144.rank)
  reducesTo_S2x1024x6144_S_d0_1_2 : S2x1024x6144.ReducesTo [0, 1, 2] S_

variable [Facts]

def fn {F : FTy → Type} [FloatOps F] (main_arg0 : FVec F S2x1024 .f32) (main_arg1 : FVec F S1024 .f32) (main_arg2 : FVec F S2x1024x6144 .f32) (main_arg3 : FVec F S2x6144 .f32) : IVec S_ 1 :=
  let main_v0 : FVec F S2x1024 .f32 := Host.absf main_arg0
  let main_cst : FVec F S_ .f32 := constant S_ .f32 0x7F800000#32
  let main_v1 : FVec F S2x1024 .f32 := broadcastInDim S2x1024 ![] bcast_S_S2x1024 main_cst
  let main_v2 : IVec S2x1024 1 := cmpf .olt main_v0 main_v1
  let main_c : IVec S_ 1 := constantI S_ 1 1#1
  let main_v3 : IVec S_ 1 := (fun x v => Host.reduce IntOp.andi x v reducesTo_S2x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S2x1024x6144 .f32 := Host.absf main_arg2
  let main_cst_2 : FVec F S_ .f32 := constant S_ .f32 0x7F800000#32
  let main_v10 : FVec F S2x1024x6144 .f32 := broadcastInDim S2x1024x6144 ![] bcast_S_S2x1024x6144 main_cst_2
  let main_v11 : IVec S2x1024x6144 1 := cmpf .olt main_v9 main_v10
  let main_c_3 : IVec S_ 1 := constantI S_ 1 1#1
  let main_v12 : IVec S_ 1 := (fun x v => Host.reduce IntOp.andi x v reducesTo_S2x1024x6144_S_d0_1_2 h_S_) main_v11 main_c_3
  let main_v13 : IVec S_ 1 := andi main_v8 main_v12
  main_v13
-- ==== Pre_finite_scores.lean ====
abbrev S2x16384x1024 : Shape := ⟨3, ![2, 16384, 1024]⟩
abbrev S2x6x8x1024 : Shape := ⟨4, ![2, 6, 8, 1024]⟩
abbrev S2x1024 : Shape := ⟨2, ![2, 1024]⟩
abbrev S1x8 : Shape := ⟨2, ![1, 8]⟩
abbrev S1x1024x1024 : Shape := ⟨3, ![1, 1024, 1024]⟩
abbrev S2x16384x512 : Shape := ⟨3, ![2, 16384, 512]⟩
abbrev S2x16384x128 : Shape := ⟨3, ![2, 16384, 128]⟩
abbrev S2x256x128 : Shape := ⟨3, ![2, 256, 128]⟩
abbrev S_ : Shape := ⟨0, ![]⟩

class Facts : Prop where
  bitsLt_bf16_f32 : FTy.bits .bf16 < FTy.bits .f32
  bcast_S_S2x16384x512 : S_.BroadcastsInDim S2x16384x512 (![] : Fin 0 → Fin S2x16384x512.rank)
  reducesTo_S2x16384x512_S_d0_1_2 : S2x16384x512.ReducesTo [0, 1, 2] S_
  h_S_ : 0 < S_.numel
  bcast_S_S2x16384x128 : S_.BroadcastsInDim S2x16384x128 (![] : Fin 0 → Fin S2x16384x128.rank)
  reducesTo_S2x16384x128_S_d0_1_2 : S2x16384x128.ReducesTo [0, 1, 2] S_
  bcast_S_S2x256x128 : S_.BroadcastsInDim S2x256x128 (![] : Fin 0 → Fin S2x256x128.rank)
  reducesTo_S2x256x128_S_d0_1_2 : S2x256x128.ReducesTo [0, 1, 2] S_
  bcast_S_S1x8 : S_.BroadcastsInDim S1x8 (![] : Fin 0 → Fin S1x8.rank)
  reducesTo_S1x8_S_d0_1 : S1x8.ReducesTo [0, 1] S_

variable [Facts]

def fn_part1 {F : FTy → Type} [FloatOps F] (main_v16 : IVec S_ 1) (main_v17 : FVec F S1x8 .f32) : IVec S_ 1 :=
  let main_cst_4 : FVec F S_ .f32 := constant S_ .f32 0x7F800000#32
  let main_v18 : FVec F S1x8 .f32 := broadcastInDim S1x8 ![] bcast_S_S1x8 main_cst_4
  let main_v19 : IVec S1x8 1 := cmpf .olt main_v17 main_v18
  let main_c_5 : IVec S_ 1 := constantI S_ 1 1#1
  let main_v20 : IVec S_ 1 := (fun x v => Host.reduce IntOp.andi x v reducesTo_S1x8_S_d0_1 h_S_) main_v19 main_c_5
  let main_v21 : IVec S_ 1 := andi main_v16 main_v20
  main_v21

def fn {F : FTy → Type} [FloatOps F] (main_arg0 : FVec F S2x16384x1024 .f32) (main_arg1 : FVec F S2x6x8x1024 .f32) (main_arg2 : FVec F S2x1024 .f32) (main_arg3 : FVec F S1x8 .f32) (main_arg4 : FVec F S1x1024x1024 .f32) (main_arg5 : FVec F S2x16384x512 .bf16) (main_arg6 : FVec F S2x16384x128 .bf16) (main_arg7 : FVec F S2x16384x128 .bf16) (main_arg8 : FVec F S2x256x128 .bf16) (main_arg9 : FVec F S2x256x128 .bf16) (main_arg10 : FVec F S2x16384x512 .bf16) : IVec S_ 1 :=
  let main_v0 : FVec F S2x16384x512 .f32 := (extf .f32 · bitsLt_bf16_f32) main_arg5
  let main_v1 : FVec F S2x16384x512 .f32 := Host.absf main_v0
  let main_cst : FVec F S_ .f32 := constant S_ .f32 0x7F800000#32
  let main_v2 : FVec F S2x16384x512 .f32 := broadcastInDim S2x16384x512 ![] bcast_S_S2x16384x512 main_cst
  let main_v3 : IVec S2x16384x512 1 := cmpf .olt main_v1 main_v2
  let main_c : IVec S_ 1 := constantI S_ 1 1#1
  let main_v4 : IVec S_ 1 := (fun x v => Host.reduce IntOp.andi x v reducesTo_S2x16384x512_S_d0_1_2 h_S_) main_v3 main_c
  let main_v5 : FVec F S2x16384x128 .f32 := (extf .f32 · bitsLt_bf16_f32) main_arg6
  let main_v6 : FVec F S2x16384x128 .f32 := Host.absf main_v5
  let main_cst_0 : FVec F S_ .f32 := constant S_ .f32 0x7F800000#32
  let main_v7 : FVec F S2x16384x128 .f32 := broadcastInDim S2x16384x128 ![] bcast_S_S2x16384x128 main_cst_0
  let main_v8 : IVec S2x16384x128 1 := cmpf .olt main_v6 main_v7
  let main_c_1 : IVec S_ 1 := constantI S_ 1 1#1
  let main_v9 : IVec S_ 1 := (fun x v => Host.reduce IntOp.andi x v reducesTo_S2x16384x128_S_d0_1_2 h_S_) main_v8 main_c_1
  let main_v10 : IVec S_ 1 := andi main_v4 main_v9
  let main_v11 : FVec F S2x256x128 .f32 := (extf .f32 · bitsLt_bf16_f32) main_arg8
  let main_v12 : FVec F S2x256x128 .f32 := Host.absf main_v11
  let main_cst_2 : FVec F S_ .f32 := constant S_ .f32 0x7F800000#32
  let main_v13 : FVec F S2x256x128 .f32 := broadcastInDim S2x256x128 ![] bcast_S_S2x256x128 main_cst_2
  let main_v14 : IVec S2x256x128 1 := cmpf .olt main_v12 main_v13
  let main_c_3 : IVec S_ 1 := constantI S_ 1 1#1
  let main_v15 : IVec S_ 1 := (fun x v => Host.reduce IntOp.andi x v reducesTo_S2x256x128_S_d0_1_2 h_S_) main_v14 main_c_3
  let main_v16 : IVec S_ 1 := andi main_v10 main_v15
  let main_v17 : FVec F S1x8 .f32 := Host.absf main_arg3
  fn_part1 (F := F) main_v16 main_v17
-- ==== Attn.lean ====
abbrev S2x16384x1024 : Shape := ⟨3, ![2, 16384, 1024]⟩
abbrev S2x6x8x1024 : Shape := ⟨4, ![2, 6, 8, 1024]⟩
abbrev S2x1024 : Shape := ⟨2, ![2, 1024]⟩
abbrev S1x8 : Shape := ⟨2, ![1, 8]⟩
abbrev S1x1024x1024 : Shape := ⟨3, ![1, 1024, 1024]⟩
abbrev S2x16384x512 : Shape := ⟨3, ![2, 16384, 512]⟩
abbrev S2x16384x128 : Shape := ⟨3, ![2, 16384, 128]⟩
abbrev S2x256x128 : Shape := ⟨3, ![2, 256, 128]⟩
abbrev S2x1x1024 : Shape := ⟨3, ![2, 1, 1024]⟩
abbrev S8 : Shape := ⟨1, ![8]⟩
abbrev S1024x1024 : Shape := ⟨2, ![1024, 1024]⟩
abbrev S1x512x512 : Shape := ⟨3, ![1, 512, 512]⟩
abbrev S1x128x128 : Shape := ⟨3, ![1, 128, 128]⟩
abbrev S1x512x128 : Shape := ⟨3, ![1, 512, 128]⟩
abbrev S1x256x128 : Shape := ⟨3, ![1, 256, 128]⟩
abbrev S1x512x1024 : Shape := ⟨3, ![1, 512, 1024]⟩
abbrev S1x1x8x1024 : Shape := ⟨4, ![1, 1, 8, 1024]⟩
abbrev S1x1x1024 : Shape := ⟨3, ![1, 1, 1024]⟩
abbrev S512x512 : Shape := ⟨2, ![512, 512]⟩
abbrev S128x128 : Shape := ⟨2, ![128, 128]⟩
abbrev S512x128 : Shape := ⟨2, ![512, 128]⟩
abbrev S768x128 : Shape := ⟨2, ![768, 128]⟩
abbrev S256x128 : Shape := ⟨2, ![256, 128]⟩
abbrev S128x384 : Shape := ⟨2, ![128, 384]⟩
abbrev S512x384 : Shape := ⟨2, ![512, 384]⟩
abbrev S1x128x512 : Shape := ⟨3, ![1, 128, 512]⟩
abbrev S128x512 : Shape := ⟨2, ![128, 512]⟩
abbrev S128x64 : Shape := ⟨2, ![128, 64]⟩
abbrev S512x64 : Shape := ⟨2, ![512, 64]⟩
abbrev S384x64 : Shape := ⟨2, ![384, 64]⟩
abbrev S256x64 : Shape := ⟨2, ![256, 64]⟩
abbrev S512x256 : Shape := ⟨2, ![512, 256]⟩
abbrev S1 : Shape := ⟨1, ![1]⟩
abbrev S128x1 : Shape := ⟨2, ![128, 1]⟩
abbrev S512x1 : Shape := ⟨2, ![512, 1]⟩
abbrev S512 : Shape := ⟨1, ![512]⟩
abbrev S512x1024 : Shape := ⟨2, ![512, 1024]⟩
abbrev S1x1x1x1024 : Shape := ⟨4, ![1, 1, 1, 1024]⟩
abbrev S1x1024 : Shape := ⟨2, ![1, 1024]⟩

abbrev nBuf : Space → Nat
  | .hbm => 16
  | .vmem => 28
  | .smem => 1
  | _ => 0

abbrev bufTy : (tb : Table) → Fin (tcTables nBuf tb) → BufTy
  | .hbm, ⟨0, _⟩ => ⟨S2x16384x1024, .f32⟩
  | .hbm, ⟨1, _⟩ => ⟨S2x6x8x1024, .f32⟩
  | .hbm, ⟨2, _⟩ => ⟨S2x1024, .f32⟩
  | .hbm, ⟨3, _⟩ => ⟨S1x8, .f32⟩
  | .hbm, ⟨4, _⟩ => ⟨S1x1024x1024, .f32⟩
  | .hbm, ⟨5, _⟩ => ⟨S2x16384x512, .bf16⟩
  | .hbm, ⟨6, _⟩ => ⟨S2x16384x128, .bf16⟩
  | .hbm, ⟨7, _⟩ => ⟨S2x16384x128, .bf16⟩
  | .hbm, ⟨8, _⟩ => ⟨S2x256x128, .bf16⟩
  | .hbm, ⟨9, _⟩ => ⟨S2x256x128, .bf16⟩
  | .hbm, ⟨10, _⟩ => ⟨S2x16384x512, .bf16⟩
  | .hbm, ⟨11, _⟩ => ⟨S2x1x1024, .f32⟩
  | .hbm, ⟨12, _⟩ => ⟨S8, .f32⟩
  | .hbm, ⟨13, _⟩ => ⟨S1024x1024, .f32⟩
  | .hbm, ⟨14, _⟩ => ⟨S1024x1024, .bf16⟩
  | .hbm, ⟨15, _⟩ => ⟨S2x16384x1024, .f32⟩
  | .local _ .vmem, ⟨0, _⟩ => ⟨S1x512x512, .bf16⟩
  | .local _ .vmem, ⟨1, _⟩ => ⟨S1x512x512, .bf16⟩
  | .local _ .vmem, ⟨2, _⟩ => ⟨S1x128x128, .bf16⟩
  | .local _ .vmem, ⟨3, _⟩ => ⟨S1x128x128, .bf16⟩
  | .local _ .vmem, ⟨4, _⟩ => ⟨S1x512x128, .bf16⟩
  | .local _ .vmem, ⟨5, _⟩ => ⟨S1x512x128, .bf16⟩
  | .local _ .vmem, ⟨6, _⟩ => ⟨S1x128x128, .bf16⟩
  | .local _ .vmem, ⟨7, _⟩ => ⟨S1x128x128, .bf16⟩
  | .local _ .vmem, ⟨8, _⟩ => ⟨S1x128x128, .bf16⟩
  | .local _ .vmem, ⟨9, _⟩ => ⟨S1x128x128, .bf16⟩
  | .local _ .vmem, ⟨10, _⟩ => ⟨S1x512x128, .bf16⟩
  | .local _ .vmem, ⟨11, _⟩ => ⟨S1x512x128, .bf16⟩
  | .local _ .vmem, ⟨12, _⟩ => ⟨S1x128x128, .bf16⟩
  | .local _ .vmem, ⟨13, _⟩ => ⟨S1x128x128, .bf16⟩
  | .local _ .vmem, ⟨14, _⟩ => ⟨S1x256x128, .bf16⟩
  | .local _ .vmem, ⟨15, _⟩ => ⟨S1x256x128, .bf16⟩
  | .local _ .vmem, ⟨16, _⟩ => ⟨S1x256x128, .bf16⟩
  | .local _ .vmem, ⟨17, _⟩ => ⟨S1x256x128, .bf16⟩
  | .local _ .vmem, ⟨18, _⟩ => ⟨S1x512x512, .bf16⟩
  | .local _ .vmem, ⟨19, _⟩ => ⟨S1x512x512, .bf16⟩
  | .local _ .vmem, ⟨20, _⟩ => ⟨S1x512x1024, .f32⟩
  | .local _ .vmem, ⟨21, _⟩ => ⟨S1x512x1024, .f32⟩
  | .local _ .vmem, ⟨22, _⟩ => ⟨S1x1x8x1024, .f32⟩
  | .local _ .vmem, ⟨23, _⟩ => ⟨S1x1x1024, .f32⟩
  | .local _ .vmem, ⟨24, _⟩ => ⟨S1024x1024, .bf16⟩
  | .local _ .vmem, ⟨25, _⟩ => ⟨S1x512x1024, .f32⟩
  | .local _ .vmem, ⟨26, _⟩ => ⟨S1x512x1024, .f32⟩
  | .local _ .vmem, ⟨27, _⟩ => ⟨S512x512, .bf16⟩
  | .local _ .smem, ⟨0, _⟩ => ⟨S8, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .smem, ⟨0, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg15_1 : Ref sig .tc := ⟨.vmem, 26, rfl⟩
abbrev cc0_scratch0 : Ref sig .tc := ⟨.vmem, 27, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨2, ![2, 32], ![false, false]⟩

def k0_off1 (i : grid0.Coords) : Fin 4 → Nat :=
  let c0_200 : Index := 0#32
  let c0_201 : Index := 0#32
  let arg0 : BitVec 32 := BitVec.ofNat 32 (i 0).val
  let v611 : Index := Scalar.indexCast arg0
  let c0_202 : Index := 0#32
  ![0, 0, v611.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  let c0_i32_1 : BitVec 32 := 0#32
  let c0_i32_2 : BitVec 32 := 0#32
  ![c0_i32.toNat, c2_i32.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S1x1x8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== AttnIdeal.lean ====
variable {F : FTy → Type} [FloatOps F] [Named F]
def κ : String → Option EReal := fun
  | "mask" => some ⊥
  | _ => none
-- ==== AttnRefIdeal.lean ====
abbrev S2x16384x1024 : Shape := ⟨3, ![2, 16384, 1024]⟩
abbrev S2x6x8x1024 : Shape := ⟨4, ![2, 6, 8, 1024]⟩
abbrev S2x1024 : Shape := ⟨2, ![2, 1024]⟩
abbrev S1x8 : Shape := ⟨2, ![1, 8]⟩
abbrev S1x1024x1024 : Shape := ⟨3, ![1, 1024, 1024]⟩
abbrev S2x16384x512 : Shape := ⟨3, ![2, 16384, 512]⟩
abbrev S2x16384x128 : Shape := ⟨3, ![2, 16384, 128]⟩
abbrev S2x256x128 : Shape := ⟨3, ![2, 256, 128]⟩
abbrev S2x16384x8x64 : Shape := ⟨4, ![2, 16384, 8, 64]⟩
abbrev S2x16384x2x64 : Shape := ⟨4, ![2, 16384, 2, 64]⟩
abbrev S2x256x2x64 : Shape := ⟨4, ![2, 256, 2, 64]⟩
abbrev S8 : Shape := ⟨1, ![8]⟩
abbrev S2x128x128x2x4x64 : Shape := ⟨6, ![2, 128, 128, 2, 4, 64]⟩
abbrev S_ : Shape := ⟨0, ![]⟩
abbrev S2x16640x2x64 : Shape := ⟨4, ![2, 16640, 2, 64]⟩
abbrev S2x130x128x2x64 : Shape := ⟨5, ![2, 130, 128, 2, 64]⟩
abbrev S2x128x128x2x64 : Shape := ⟨5, ![2, 128, 128, 2, 64]⟩
abbrev S2x128x384x2x64 : Shape := ⟨5, ![2, 128, 384, 2, 64]⟩
abbrev S2x128x2x384x128x4 : Shape := ⟨6, ![2, 128, 2, 384, 128, 4]⟩
abbrev S2x128x2x4x128x384 : Shape := ⟨6, ![2, 128, 2, 4, 128, 384]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S384 : Shape := ⟨1, ![384]⟩
abbrev S1x384 : Shape := ⟨2, ![1, 384]⟩
abbrev S128x384 : Shape := ⟨2, ![128, 384]⟩
abbrev S128x128x1 : Shape := ⟨3, ![128, 128, 1]⟩
abbrev S128x1x384 : Shape := ⟨3, ![128, 1, 384]⟩
abbrev S128x128x384 : Shape := ⟨3, ![128, 128, 384]⟩
abbrev S1x128x1x1x128x384 : Shape := ⟨6, ![1, 128, 1, 1, 128, 384]⟩
abbrev S2x2x256x128x128x4 : Shape := ⟨6, ![2, 2, 256, 128, 128, 4]⟩
abbrev S2x128x2x4x128x256 : Shape := ⟨6, ![2, 128, 2, 4, 128, 256]⟩
abbrev S2x4 : Shape := ⟨2, ![2, 4]⟩
abbrev S1x1x2x4x1x1 : Shape := ⟨6, ![1, 1, 2, 4, 1, 1]⟩
abbrev S2x128x2x4x128x1 : Shape := ⟨6, ![2, 128, 2, 4, 128, 1]⟩
abbrev S2x128x2x4x128x641 : Shape := ⟨6, ![2, 128, 2, 4, 128, 641]⟩
abbrev S2x128x2x4x128 : Shape := ⟨5, ![2, 128, 2, 4, 128]⟩
abbrev S2x128x2x64x4x128 : Shape := ⟨6, ![2, 128, 2, 64, 4, 128]⟩
abbrev S2x2x64x128x4x128 : Shape := ⟨6, ![2, 2, 64, 128, 4, 128]⟩
abbrev S1024x1024 : Shape := ⟨2, ![1024, 1024]⟩
abbrev S1x1x2x1024 : Shape := ⟨4, ![1, 1, 2, 1024]⟩
abbrev S2x1x1024 : Shape := ⟨3, ![2, 1, 1024]⟩
abbrev S1x1024 : Shape := ⟨2, ![1, 1024]⟩
abbrev S1024 : Shape := ⟨1, ![1024]⟩
abbrev S2x16384 : Shape := ⟨2, ![2, 16384]⟩
abbrev S2x16384x1 : Shape := ⟨3, ![2, 16384, 1]⟩
abbrev S1x1x1024 : Shape := ⟨3, ![1, 1, 1024]⟩

abbrev nBuf : Space → Nat
  | .hbm => 147
  | .vmem => 0
  | .smem => 0
  | _ => 0

abbrev hbmTy0_0 (i : Nat) : BufTy := match i % 128 with
  | 0 => ⟨S2x16384x1024, .f32⟩
  | 1 => ⟨S2x6x8x1024, .f32⟩
  | 2 => ⟨S2x1024, .f32⟩
  | 3 => ⟨S1x8, .f32⟩
  | 4 => ⟨S1x1024x1024, .f32⟩
  | 5 => ⟨S2x16384x512, .bf16⟩
  | 6 => ⟨S2x16384x128, .bf16⟩
  | 7 => ⟨S2x16384x128, .bf16⟩
  | 8 => ⟨S2x256x128, .bf16⟩
  | 9 => ⟨S2x256x128, .bf16⟩
  | 10 => ⟨S2x16384x512, .bf16⟩
  | 11 => ⟨S2x16384x512, .f32⟩
  | 12 => ⟨S2x16384x8x64, .f32⟩
  | 13 => ⟨S2x16384x128, .f32⟩
  | 14 => ⟨S2x16384x2x64, .f32⟩
  | 15 => ⟨S2x16384x128, .f32⟩
  | 16 => ⟨S2x16384x2x64, .f32⟩
  | 17 => ⟨S2x256x128, .f32⟩
  | 18 => ⟨S2x256x2x64, .f32⟩
  | 19 => ⟨S2x256x128, .f32⟩
  | 20 => ⟨S2x256x2x64, .f32⟩
  | 21 => ⟨S8, .f32⟩
  | 22 => ⟨S2x128x128x2x4x64, .f32⟩
  | 23 => ⟨S_, .i32⟩
  | 24 => ⟨S_, .f32⟩
  | 25 => ⟨S2x16640x2x64, .f32⟩
  | 26 => ⟨S2x130x128x2x64, .f32⟩
  | 27 => ⟨S_, .i32⟩
  | 28 => ⟨S_, .f32⟩
  | 29 => ⟨S2x16640x2x64, .f32⟩
  | 30 => ⟨S2x130x128x2x64, .f32⟩
  | 31 => ⟨S2x128x128x2x64, .f32⟩
  | 32 => ⟨S2x128x128x2x64, .f32⟩
  | 33 => ⟨S2x128x128x2x64, .f32⟩
  | 34 => ⟨S2x128x384x2x64, .f32⟩
  | 35 => ⟨S2x128x128x2x64, .f32⟩
  | 36 => ⟨S2x128x128x2x64, .f32⟩
  | 37 => ⟨S2x128x128x2x64, .f32⟩
  | 38 => ⟨S2x128x384x2x64, .f32⟩
  | 39 => ⟨S2x128x2x384x128x4, .f32⟩
  | 40 => ⟨S2x128x2x4x128x384, .f32⟩
  | 41 => ⟨S128, .i32⟩
  | 42 => ⟨S128x1, .i32⟩
  | 43 => ⟨S_, .i32⟩
  | 44 => ⟨S128x1, .i32⟩
  | 45 => ⟨S128x1, .i32⟩
  | 46 => ⟨S128, .i32⟩
  | 47 => ⟨S1x128, .i32⟩
  | 48 => ⟨S128x128, .i32⟩
  | 49 => ⟨S128x128, .i32⟩
  | 50 => ⟨S128x128, .i32⟩
  | 51 => ⟨S128, .i32⟩
  | 52 => ⟨S128x1, .i32⟩
  | 53 => ⟨S_, .i32⟩
  | 54 => ⟨S128x1, .i32⟩
  | 55 => ⟨S128x1, .i32⟩
  | 56 => ⟨S384, .i32⟩
  | 57 => ⟨S1x384, .i32⟩
  | 58 => ⟨S128x384, .i32⟩
  | 59 => ⟨S128x384, .i32⟩
  | 60 => ⟨S128x384, .i32⟩
  | 61 => ⟨S_, .i32⟩
  | 62 => ⟨S128x384, .i32⟩
  | 63 => ⟨S128x384, .i32⟩
  | 64 => ⟨S128x128x1, .i32⟩
  | 65 => ⟨S128x1x384, .i32⟩
  | 66 => ⟨S128x128x384, .i32⟩
  | 67 => ⟨S128x128x384, .i32⟩
  | 68 => ⟨S128x128x384, .i32⟩
  | 69 => ⟨S128x128x384, .i32⟩
  | 70 => ⟨S_, .i32⟩
  | 71 => ⟨S128x128x384, .i32⟩
  | 72 => ⟨S128x128x384, .i1⟩
  | 73 => ⟨S_, .i32⟩
  | 74 => ⟨S128x384, .i32⟩
  | 75 => ⟨S128x384, .i1⟩
  | 76 => ⟨S128x1x384, .i1⟩
  | 77 => ⟨S128x128x384, .i1⟩
  | 78 => ⟨S128x128x384, .i1⟩
  | 79 => ⟨S_, .i32⟩
  | 80 => ⟨S128x384, .i32⟩
  | 81 => ⟨S128x384, .i1⟩
  | 82 => ⟨S128x1x384, .i1⟩
  | 83 => ⟨S128x128x384, .i1⟩
  | 84 => ⟨S128x128x384, .i1⟩
  | 85 => ⟨S1x128x1x1x128x384, .i1⟩
  | 86 => ⟨S_, .f32⟩
  | 87 => ⟨S_, .f32⟩
  | 88 => ⟨S2x128x2x4x128x384, .i1⟩
  | 89 => ⟨S2x128x2x4x128x384, .f32⟩
  | 90 => ⟨S2x128x2x4x128x384, .f32⟩
  | 91 => ⟨S2x2x256x128x128x4, .f32⟩
  | 92 => ⟨S2x128x2x4x128x256, .f32⟩
  | 93 => ⟨S2x4, .f32⟩
  | 94 => ⟨S1x1x2x4x1x1, .f32⟩
  | 95 => ⟨S2x128x2x4x128x1, .f32⟩
  | 96 => ⟨S2x128x2x4x128x641, .f32⟩
  | 97 => ⟨S_, .f32⟩
  | 98 => ⟨S2x128x2x4x128, .f32⟩
  | 99 => ⟨S_, .f32⟩
  | 100 => ⟨S2x128x2x4x128, .f32⟩
  | 101 => ⟨S2x128x2x4x128, .f32⟩
  | 102 => ⟨S2x128x2x4x128x1, .f32⟩
  | 103 => ⟨S2x128x2x4x128x641, .f32⟩
  | 104 => ⟨S2x128x2x4x128x641, .f32⟩
  | 105 => ⟨S2x128x2x4x128x641, .f32⟩
  | 106 => ⟨S_, .f32⟩
  | 107 => ⟨S2x128x2x4x128, .f32⟩
  | 108 => ⟨S2x128x2x4x128x1, .f32⟩
  | 109 => ⟨S2x128x2x4x128x641, .f32⟩
  | 110 => ⟨S2x128x2x4x128x641, .f32⟩
  | 111 => ⟨S2x128x2x4x128x384, .f32⟩
  | 112 => ⟨S2x128x2x4x128x256, .f32⟩
  | 113 => ⟨S2x128x2x64x4x128, .f32⟩
  | 114 => ⟨S2x128x128x2x4x64, .f32⟩
  | 115 => ⟨S2x2x64x128x4x128, .f32⟩
  | 116 => ⟨S2x128x128x2x4x64, .f32⟩
  | 117 => ⟨S2x128x128x2x4x64, .f32⟩
  | 118 => ⟨S2x16384x512, .f32⟩
  | 119 => ⟨S2x16384x512, .f32⟩
  | 120 => ⟨S2x16384x1024, .f32⟩
  | 121 => ⟨S1024x1024, .f32⟩
  | 122 => ⟨S2x16384x1024, .f32⟩
  | 123 => ⟨S1x1x2x1024, .f32⟩
  | 124 => ⟨S2x1024, .f32⟩
  | 125 => ⟨S2x1x1024, .f32⟩
  | 126 => ⟨S1x1024, .f32⟩
  | 127 => ⟨S1024, .f32⟩
  | _ => ⟨S2x16384x1024, .f32⟩

abbrev hbmTy0_1 (i : Nat) : BufTy := match i % 128 with
  | 0 => ⟨S2x16384x1024, .f32⟩
  | 1 => ⟨S_, .f32⟩
  | 2 => ⟨S2x16384, .f32⟩
  | 3 => ⟨S2x16384x1, .f32⟩
  | 4 => ⟨S_, .f32⟩
  | 5 => ⟨S2x16384x1, .f32⟩
  | 6 => ⟨S2x16384x1, .f32⟩
  | 7 => ⟨S_, .f32⟩
  | 8 => ⟨S2x16384x1, .f32⟩
  | 9 => ⟨S2x16384x1, .f32⟩
  | 10 => ⟨S2x16384x1, .f32⟩
  | 11 => ⟨S2x16384x1024, .f32⟩
  | 12 => ⟨S2x16384x1024, .f32⟩
  | 13 => ⟨S1x1x1024, .f32⟩
  | 14 => ⟨S2x16384x1024, .f32⟩
  | 15 => ⟨S2x16384x1024, .f32⟩
  | 16 => ⟨S2x16384x1024, .f32⟩
  | 17 => ⟨S2x16384x1024, .f32⟩
  | 18 => ⟨S2x16384x1024, .f32⟩
  | _ => ⟨S2x16384x1024, .f32⟩

abbrev hbmTy (i : Nat) : BufTy := match i / 128 with
  | 0 => hbmTy0_0 i
  | 1 => hbmTy0_1 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_call0_v0 : Ref sig .tc := ⟨.hbm, 24, rfl⟩
abbrev main_v12 : Ref sig .tc := ⟨.hbm, 25, rfl⟩
abbrev main_v13 : Ref sig .tc := ⟨.hbm, 26, rfl⟩
abbrev main_c_0 : Ref sig .tc := ⟨.hbm, 27, rfl⟩
abbrev main_call1_v0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_1 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_2 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_3 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_c_4 : Ref sig .tc := ⟨.hbm, 70, rfl⟩
abbrev main_v52 : Ref sig .tc := ⟨.hbm, 71, rfl⟩
abbrev main_v53 : Ref sig .tc := ⟨.hbm, 72, rfl⟩
abbrev main_c_5 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_c_6 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst : Ref sig .tc := ⟨.hbm, 86, rfl⟩
abbrev main_call2_v0 : Ref sig .tc := ⟨.hbm, 87, rfl⟩
abbrev main_call2_v1 : Ref sig .tc := ⟨.hbm, 88, rfl⟩
abbrev main_call2_v2 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_7 : Ref sig .tc := ⟨.hbm, 97, rfl⟩
abbrev main_v72 : Ref sig .tc := ⟨.hbm, 98, rfl⟩
abbrev main_cst_8 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_9 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_cst_10 : Ref sig .tc := ⟨.hbm, 129, rfl⟩
abbrev main_v101 : Ref sig .tc := ⟨.hbm, 130, rfl⟩
abbrev main_v102 : Ref sig .tc := ⟨.hbm, 131, rfl⟩
abbrev main_cst_11 : Ref sig .tc := ⟨.hbm, 132, rfl⟩
abbrev main_v103 : Ref sig .tc := ⟨.hbm, 133, rfl⟩
abbrev main_v104 : Ref sig .tc := ⟨.hbm, 134, rfl⟩
abbrev main_cst_12 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩

abbrev nD : Nat := 1
abbrev τ : Topo := Topo.v7x

variable {F : FTy → Type} [FloatOps F]
-- ==== Ffn.lean ====
abbrev S2x16384x1024 : Shape := ⟨3, ![2, 16384, 1024]⟩
abbrev S2x6x8x1024 : Shape := ⟨4, ![2, 6, 8, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S2x1x1024 : Shape := ⟨3, ![2, 1, 1024]⟩
abbrev S1x512x1024 : Shape := ⟨3, ![1, 512, 1024]⟩
abbrev S1x1x8x1024 : Shape := ⟨4, ![1, 1, 8, 1024]⟩
abbrev S1x1x1024 : Shape := ⟨3, ![1, 1, 1024]⟩
abbrev S1x1024x2816 : Shape := ⟨3, ![1, 1024, 2816]⟩
abbrev S1x2816x1024 : Shape := ⟨3, ![1, 2816, 1024]⟩
abbrev S512x1024 : Shape := ⟨2, ![512, 1024]⟩
abbrev S1x1024 : Shape := ⟨2, ![1, 1024]⟩
abbrev S1x1x1x1024 : Shape := ⟨4, ![1, 1, 1, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 13
  | .vmem => 13
  | .smem => 0
  | _ => 0

abbrev bufTy : (tb : Table) → Fin (tcTables nBuf tb) → BufTy
  | .hbm, ⟨0, _⟩ => ⟨S2x16384x1024, .f32⟩
  | .hbm, ⟨1, _⟩ => ⟨S2x6x8x1024, .f32⟩
  | .hbm, ⟨2, _⟩ => ⟨S2x1024, .f32⟩
  | .hbm, ⟨3, _⟩ => ⟨S2x1024, .f32⟩
  | .hbm, ⟨4, _⟩ => ⟨S2x1024x2816, .f32⟩
  | .hbm, ⟨5, _⟩ => ⟨S2x1024x2816, .f32⟩
  | .hbm, ⟨6, _⟩ => ⟨S2x2816x1024, .f32⟩
  | .hbm, ⟨7, _⟩ => ⟨S2x1x1024, .f32⟩
  | .hbm, ⟨8, _⟩ => ⟨S2x1x1024, .f32⟩
  | .hbm, ⟨9, _⟩ => ⟨S2x1024x2816, .bf16⟩
  | .hbm, ⟨10, _⟩ => ⟨S2x1024x2816, .bf16⟩
  | .hbm, ⟨11, _⟩ => ⟨S2x2816x1024, .bf16⟩
  | .hbm, ⟨12, _⟩ => ⟨S2x16384x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x8x1024, .f32⟩
  | .local _ .vmem, ⟨3, _⟩ => ⟨S1x1x8x1024, .f32⟩
  | .local _ .vmem, ⟨4, _⟩ => ⟨S1x1x8x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024x2816, .bf16⟩
  | .local _ .vmem, ⟨8, _⟩ => ⟨S1x1024x2816, .bf16⟩
  | .local _ .vmem, ⟨9, _⟩ => ⟨S1x2816x1024, .bf16⟩
  | .local _ .vmem, ⟨10, _⟩ => ⟨S1x512x1024, .f32⟩
  | .local _ .vmem, ⟨11, _⟩ => ⟨S1x512x1024, .f32⟩
  | .local _ .vmem, ⟨12, _⟩ => ⟨S512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨2, ![2, 32], ![false, false]⟩

def k0_off1 (i : grid0.Coords) : Fin 4 → Nat :=
  let c0_5 : Index := 0#32
  let c0_6 : Index := 0#32
  let arg0 : BitVec 32 := BitVec.ofNat 32 (i 0).val
  let v4 : Index := Scalar.indexCast arg0
  let c0_7 : Index := 0#32
  ![0, 0, v4.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  let c0_i32_1 : BitVec 32 := 0#32
  let c0_i32_2 : BitVec 32 := 0#32
  ![c0_i32.toNat, c3_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  let c0_i32_1 : BitVec 32 := 0#32
  let c0_i32_2 : BitVec 32 := 0#32
  ![c0_i32.toNat, c4_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  let c0_i32_1 : BitVec 32 := 0#32
  let c0_i32_2 : BitVec 32 := 0#32
  ![c0_i32.toNat, c5_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== FfnRefIdeal.lean ====
abbrev S2x16384x1024 : Shape := ⟨3, ![2, 16384, 1024]⟩
abbrev S2x6x8x1024 : Shape := ⟨4, ![2, 6, 8, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1x1x2x1024 : Shape := ⟨4, ![1, 1, 2, 1024]⟩
abbrev S2x1x1024 : Shape := ⟨3, ![2, 1, 1024]⟩
abbrev S1x1024 : Shape := ⟨2, ![1, 1024]⟩
abbrev S1024 : Shape := ⟨1, ![1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S2x16384x2816 : Shape := ⟨3, ![2, 16384, 2816]⟩

abbrev nBuf : Space → Nat
  | .hbm => 81
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x6x8x1024, .f32⟩
  | .hbm, ⟨2, _⟩ => ⟨S2x1024, .f32⟩
  | .hbm, ⟨3, _⟩ => ⟨S2x1024, .f32⟩
  | .hbm, ⟨4, _⟩ => ⟨S2x1024x2816, .f32⟩
  | .hbm, ⟨5, _⟩ => ⟨S2x1024x2816, .f32⟩
  | .hbm, ⟨6, _⟩ => ⟨S2x2816x1024, .f32⟩
  | .hbm, ⟨7, _⟩ => ⟨S1x1x2x1024, .f32⟩
  | .hbm, ⟨8, _⟩ => ⟨S2x1024, .f32⟩
  | .hbm, ⟨9, _⟩ => ⟨S2x1x1024, .f32⟩
  | .hbm, ⟨10, _⟩ => ⟨S1x1x2x1024, .f32⟩
  | .hbm, ⟨11, _⟩ => ⟨S2x1024, .f32⟩
  | .hbm, ⟨12, _⟩ => ⟨S2x1x1024, .f32⟩
  | .hbm, ⟨13, _⟩ => ⟨S1x1x2x1024, .f32⟩
  | .hbm, ⟨14, _⟩ => ⟨S2x1024, .f32⟩
  | .hbm, ⟨15, _⟩ => ⟨S2x1x1024, .f32⟩
  | .hbm, ⟨16, _⟩ => ⟨S1x1024, .f32⟩
  | .hbm, ⟨17, _⟩ => ⟨S1024, .f32⟩
  | .hbm, ⟨18, _⟩ => ⟨S2x16384x1024, .f32⟩
  | .hbm, ⟨19, _⟩ => ⟨S_, .f32⟩
  | .hbm, ⟨20, _⟩ => ⟨S2x16384, .f32⟩
  | .hbm, ⟨21, _⟩ => ⟨S2x16384x1, .f32⟩
  | .hbm, ⟨22, _⟩ => ⟨S_, .f32⟩
  | .hbm, ⟨23, _⟩ => ⟨S2x16384x1, .f32⟩
  | .hbm, ⟨24, _⟩ => ⟨S2x16384x1, .f32⟩
  | .hbm, ⟨25, _⟩ => ⟨S_, .f32⟩
  | .hbm, ⟨26, _⟩ => ⟨S2x16384x1, .f32⟩
  | .hbm, ⟨27, _⟩ => ⟨S2x16384x1, .f32⟩
  | .hbm, ⟨28, _⟩ => ⟨S2x16384x1, .f32⟩
  | .hbm, ⟨29, _⟩ => ⟨S2x16384x1024, .f32⟩
  | .hbm, ⟨30, _⟩ => ⟨S2x16384x1024, .f32⟩
  | .hbm, ⟨31, _⟩ => ⟨S1x1x1024, .f32⟩
  | .hbm, ⟨32, _⟩ => ⟨S2x16384x1024, .f32⟩
  | .hbm, ⟨33, _⟩ => ⟨S2x16384x1024, .f32⟩
  | .hbm, ⟨34, _⟩ => ⟨S_, .f32⟩
  | .hbm, ⟨35, _⟩ => ⟨S2x1x1024, .f32⟩
  | .hbm, ⟨36, _⟩ => ⟨S2x1x1024, .f32⟩
  | .hbm, ⟨37, _⟩ => ⟨S2x16384x1024, .f32⟩
  | .hbm, ⟨38, _⟩ => ⟨S2x16384x1024, .f32⟩
  | .hbm, ⟨39, _⟩ => ⟨S2x16384x1024, .f32⟩
  | .hbm, ⟨40, _⟩ => ⟨S2x16384x1024, .f32⟩
  | .hbm, ⟨41, _⟩ => ⟨S1x1024x2816, .f32⟩
  | .hbm, ⟨42, _⟩ => ⟨S1024x2816, .f32⟩
  | .hbm, ⟨43, _⟩ => ⟨S1x1024x2816, .f32⟩
  | .hbm, ⟨44, _⟩ => ⟨S1024x2816, .f32⟩
  | .hbm, ⟨45, _⟩ => ⟨S1x2816x1024, .f32⟩
  | .hbm, ⟨46, _⟩ => ⟨S2816x1024, .f32⟩
  | .hbm, ⟨47, _⟩ => ⟨S2x16384x2816, .f32⟩
  | .hbm, ⟨48, _⟩ => ⟨S2x16384x2816, .f32⟩
  | .hbm, ⟨49, _⟩ => ⟨S2x16384x2816, .f32⟩
  | .hbm, ⟨50, _⟩ => ⟨S_, .f32⟩
  | .hbm, ⟨51, _⟩ => ⟨S2x16384x2816, .f32⟩
  | .hbm, ⟨52, _⟩ => ⟨S2x16384x2816, .f32⟩
  | .hbm, ⟨53, _⟩ => ⟨S_, .f32⟩
  | .hbm, ⟨54, _⟩ => ⟨S2x16384x2816, .f32⟩
  | .hbm, ⟨55, _⟩ => ⟨S2x16384x2816, .f32⟩
  | .hbm, ⟨56, _⟩ => ⟨S2x16384x2816, .f32⟩
  | .hbm, ⟨57, _⟩ => ⟨S2x16384x2816, .f32⟩
  | .hbm, ⟨58, _⟩ => ⟨S2x16384x2816, .f32⟩
  | .hbm, ⟨59, _⟩ => ⟨S2x16384x1024, .f32⟩
  | .hbm, ⟨60, _⟩ => ⟨S1x1024, .f32⟩
  | .hbm, ⟨61, _⟩ => ⟨S1024, .f32⟩
  | .hbm, ⟨62, _⟩ => ⟨S2x16384x1024, .f32⟩
  | .hbm, ⟨63, _⟩ => ⟨S_, .f32⟩
  | .hbm, ⟨64, _⟩ => ⟨S2x16384, .f32⟩
  | .hbm, ⟨65, _⟩ => ⟨S2x16384x1, .f32⟩
  | .hbm, ⟨66, _⟩ => ⟨S_, .f32⟩
  | .hbm, ⟨67, _⟩ => ⟨S2x16384x1, .f32⟩
  | .hbm, ⟨68, _⟩ => ⟨S2x16384x1, .f32⟩
  | .hbm, ⟨69, _⟩ => ⟨S_, .f32⟩
  | .hbm, ⟨70, _⟩ => ⟨S2x16384x1, .f32⟩
  | .hbm, ⟨71, _⟩ => ⟨S2x16384x1, .f32⟩
  | .hbm, ⟨72, _⟩ => ⟨S2x16384x1, .f32⟩
  | .hbm, ⟨73, _⟩ => ⟨S2x16384x1024, .f32⟩
  | .hbm, ⟨74, _⟩ => ⟨S2x16384x1024, .f32⟩
  | .hbm, ⟨75, _⟩ => ⟨S1x1x1024, .f32⟩
  | .hbm, ⟨76, _⟩ => ⟨S2x16384x1024, .f32⟩
  | .hbm, ⟨77, _⟩ => ⟨S2x16384x1024, .f32⟩
  | .hbm, ⟨78, _⟩ => ⟨S2x16384x1024, .f32⟩
  | .hbm, ⟨79, _⟩ => ⟨S2x16384x1024, .f32⟩
  | .hbm, ⟨80, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_3 : Ref sig .tc := ⟨.hbm, 63, rfl⟩
abbrev main_v44 : Ref sig .tc := ⟨.hbm, 64, rfl⟩
abbrev main_v45 : Ref sig .tc := ⟨.hbm, 65, rfl⟩
abbrev main_cst_4 : Ref sig .tc := ⟨.hbm, 66, rfl⟩
abbrev main_v46 : Ref sig .tc := ⟨.hbm, 67, rfl⟩
abbrev main_v47 : Ref sig .tc := ⟨.hbm, 68, rfl⟩
abbrev main_cst_5 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]
-- ==== Conv.lean ====
abbrev S2x16384x1024 : Shape := ⟨3, ![2, 16384, 1024]⟩
abbrev S2x6x8x1024 : Shape := ⟨4, ![2, 6, 8, 1024]⟩
abbrev S2x1024 : Shape := ⟨2, ![2, 1024]⟩
abbrev S1x1024x3072 : Shape := ⟨3, ![1, 1024, 3072]⟩
abbrev S1x3x1024 : Shape := ⟨3, ![1, 3, 1024]⟩
abbrev S1x1024x1024 : Shape := ⟨3, ![1, 1024, 1024]⟩
abbrev S2x1x1024 : Shape := ⟨3, ![2, 1, 1024]⟩
abbrev S3x1024 : Shape := ⟨2, ![3, 1024]⟩
abbrev S_ : Shape := ⟨0, ![]⟩
abbrev S5x1024 : Shape := ⟨2, ![5, 1024]⟩
abbrev S8x1024 : Shape := ⟨2, ![8, 1024]⟩
abbrev S1024x3072 : Shape := ⟨2, ![1024, 3072]⟩
abbrev S1024x1024 : Shape := ⟨2, ![1024, 1024]⟩
abbrev S1x8x1024 : Shape := ⟨3, ![1, 8, 1024]⟩
abbrev S1x512x1024 : Shape := ⟨3, ![1, 512, 1024]⟩
abbrev S1x1x8x1024 : Shape := ⟨4, ![1, 1, 8, 1024]⟩
abbrev S1x1x1024 : Shape := ⟨3, ![1, 1, 1024]⟩
abbrev S512x1024 : Shape := ⟨2, ![512, 1024]⟩
abbrev S528x1024 : Shape := ⟨2, ![528, 1024]⟩
abbrev S1x1024 : Shape := ⟨2, ![1, 1024]⟩
abbrev S1x1x1x1024 : Shape := ⟨4, ![1, 1, 1, 1024]⟩
abbrev S528 : Shape := ⟨1, ![528]⟩
abbrev S528x1 : Shape := ⟨2, ![528, 1]⟩
abbrev S512 : Shape := ⟨1, ![512]⟩
abbrev S512x1 : Shape := ⟨2, ![512, 1]⟩

abbrev nBuf : Space → Nat
  | .hbm => 18
  | .vmem => 16
  | .smem => 0
  | _ => 0

abbrev bufTy : (tb : Table) → Fin (tcTables nBuf tb) → BufTy
  | .hbm, ⟨0, _⟩ => ⟨S2x16384x1024, .f32⟩
  | .hbm, ⟨1, _⟩ => ⟨S2x6x8x1024, .f32⟩
  | .hbm, ⟨2, _⟩ => ⟨S2x1024, .f32⟩
  | .hbm, ⟨3, _⟩ => ⟨S2x1024, .f32⟩
  | .hbm, ⟨4, _⟩ => ⟨S1x1024x3072, .f32⟩
  | .hbm, ⟨5, _⟩ => ⟨S1x3x1024, .f32⟩
  | .hbm, ⟨6, _⟩ => ⟨S1x1024x1024, .f32⟩
  | .hbm, ⟨7, _⟩ => ⟨S2x1x1024, .f32⟩
  | .hbm, ⟨8, _⟩ => ⟨S2x1x1024, .f32⟩
  | .hbm, ⟨9, _⟩ => ⟨S3x1024, .f32⟩
  | .hbm, ⟨10, _⟩ => ⟨S_, .f32⟩
  | .hbm, ⟨11, _⟩ => ⟨S5x1024, .f32⟩
  | .hbm, ⟨12, _⟩ => ⟨S8x1024, .f32⟩
  | .hbm, ⟨13, _⟩ => ⟨S1024x3072, .f32⟩
  | .hbm, ⟨14, _⟩ => ⟨S1024x3072, .bf16⟩
  | .hbm, ⟨15, _⟩ => ⟨S1024x1024, .f32⟩
  | .hbm, ⟨16, _⟩ => ⟨S1024x1024, .bf16⟩
  | .hbm, ⟨17, _⟩ => ⟨S2x16384x1024, .f32⟩
  | .local _ .vmem, ⟨0, _⟩ => ⟨S1x8x1024, .f32⟩
  | .local _ .vmem, ⟨1, _⟩ => ⟨S1x8x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1x8x1024, .f32⟩
  | .local _ .vmem, ⟨7, _⟩ => ⟨S1x1x8x1024, .f32⟩
  | .local _ .vmem, ⟨8, _⟩ => ⟨S1x1x8x1024, .f32⟩
  | .local _ .vmem, ⟨9, _⟩ => ⟨S1x1x1024, .f32⟩
  | .local _ .vmem, ⟨10, _⟩ => ⟨S1x1x1024, .f32⟩
  | .local _ .vmem, ⟨11, _⟩ => ⟨S1024x3072, .bf16⟩
  | .local _ .vmem, ⟨12, _⟩ => ⟨S8x1024, .f32⟩
  | .local _ .vmem, ⟨13, _⟩ => ⟨S1024x1024, .bf16⟩
  | .local _ .vmem, ⟨14, _⟩ => ⟨S1x512x1024, .f32⟩
  | .local _ .vmem, ⟨15, _⟩ => ⟨S1x512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨2, ![2, 32], ![false, false]⟩

def k0_off1 (i : grid0.Coords) : Fin 4 → Nat :=
  let c0_11 : Index := 0#32
  let c0_12 : Index := 0#32
  let arg0 : BitVec 32 := BitVec.ofNat 32 (i 0).val
  let v9 : Index := Scalar.indexCast arg0
  let c0_13 : Index := 0#32
  ![0, 0, v9.toNat, 0]
def cc0_transform_0 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![arg0.toNat, v2.toNat, c0_i32.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let c2_i32 : BitVec 32 := 2#32
  let c0_i32 : BitVec 32 := 0#32
  let c0_i32_0 : BitVec 32 := 0#32
  let c0_i32_1 : BitVec 32 := 0#32
  ![c1_i32.toNat, c2_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1x8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x3072 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ConvRefIdeal.lean ====
abbrev S2x16384x1024 : Shape := ⟨3, ![2, 16384, 1024]⟩
abbrev S2x6x8x1024 : Shape := ⟨4, ![2, 6, 8, 1024]⟩
abbrev S2x1024 : Shape := ⟨2, ![2, 1024]⟩
abbrev S1x1024x3072 : Shape := ⟨3, ![1, 1024, 3072]⟩
abbrev S1x3x1024 : Shape := ⟨3, ![1, 3, 1024]⟩
abbrev S1x1024x1024 : Shape := ⟨3, ![1, 1024, 1024]⟩
abbrev S1x1x2x1024 : Shape := ⟨4, ![1, 1, 2, 1024]⟩
abbrev S2x1x1024 : Shape := ⟨3, ![2, 1, 1024]⟩
abbrev S1x1024 : Shape := ⟨2, ![1, 1024]⟩
abbrev S1024 : Shape := ⟨1, ![1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S1024x3072 : Shape := ⟨2, ![1024, 3072]⟩
abbrev S3x1024 : Shape := ⟨2, ![3, 1024]⟩
abbrev S1024x1024 : Shape := ⟨2, ![1024, 1024]⟩
abbrev S2x16384x3072 : Shape := ⟨3, ![2, 16384, 3072]⟩
abbrev S2x16386x1024 : Shape := ⟨3, ![2, 16386, 1024]⟩

abbrev nBuf : Space → Nat
  | .hbm => 95
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x6x8x1024, .f32⟩
  | .hbm, ⟨2, _⟩ => ⟨S2x1024, .f32⟩
  | .hbm, ⟨3, _⟩ => ⟨S2x1024, .f32⟩
  | .hbm, ⟨4, _⟩ => ⟨S1x1024x3072, .f32⟩
  | .hbm, ⟨5, _⟩ => ⟨S1x3x1024, .f32⟩
  | .hbm, ⟨6, _⟩ => ⟨S1x1024x1024, .f32⟩
  | .hbm, ⟨7, _⟩ => ⟨S1x1x2x1024, .f32⟩
  | .hbm, ⟨8, _⟩ => ⟨S2x1024, .f32⟩
  | .hbm, ⟨9, _⟩ => ⟨S2x1x1024, .f32⟩
  | .hbm, ⟨10, _⟩ => ⟨S1x1x2x1024, .f32⟩
  | .hbm, ⟨11, _⟩ => ⟨S2x1024, .f32⟩
  | .hbm, ⟨12, _⟩ => ⟨S2x1x1024, .f32⟩
  | .hbm, ⟨13, _⟩ => ⟨S1x1x2x1024, .f32⟩
  | .hbm, ⟨14, _⟩ => ⟨S2x1024, .f32⟩
  | .hbm, ⟨15, _⟩ => ⟨S2x1x1024, .f32⟩
  | .hbm, ⟨16, _⟩ => ⟨S1x1024, .f32⟩
  | .hbm, ⟨17, _⟩ => ⟨S1024, .f32⟩
  | .hbm, ⟨18, _⟩ => ⟨S2x16384x1024, .f32⟩
  | .hbm, ⟨19, _⟩ => ⟨S_, .f32⟩
  | .hbm, ⟨20, _⟩ => ⟨S2x16384, .f32⟩
  | .hbm, ⟨21, _⟩ => ⟨S2x16384x1, .f32⟩
  | .hbm, ⟨22, _⟩ => ⟨S_, .f32⟩
  | .hbm, ⟨23, _⟩ => ⟨S2x16384x1, .f32⟩
  | .hbm, ⟨24, _⟩ => ⟨S2x16384x1, .f32⟩
  | .hbm, ⟨25, _⟩ => ⟨S_, .f32⟩
  | .hbm, ⟨26, _⟩ => ⟨S2x16384x1, .f32⟩
  | .hbm, ⟨27, _⟩ => ⟨S2x16384x1, .f32⟩
  | .hbm, ⟨28, _⟩ => ⟨S2x16384x1, .f32⟩
  | .hbm, ⟨29, _⟩ => ⟨S2x16384x1024, .f32⟩
  | .hbm, ⟨30, _⟩ => ⟨S2x16384x1024, .f32⟩
  | .hbm, ⟨31, _⟩ => ⟨S1x1x1024, .f32⟩
  | .hbm, ⟨32, _⟩ => ⟨S2x16384x1024, .f32⟩
  | .hbm, ⟨33, _⟩ => ⟨S2x16384x1024, .f32⟩
  | .hbm, ⟨34, _⟩ => ⟨S_, .f32⟩
  | .hbm, ⟨35, _⟩ => ⟨S2x1x1024, .f32⟩
  | .hbm, ⟨36, _⟩ => ⟨S2x1x1024, .f32⟩
  | .hbm, ⟨37, _⟩ => ⟨S2x16384x1024, .f32⟩
  | .hbm, ⟨38, _⟩ => ⟨S2x16384x1024, .f32⟩
  | .hbm, ⟨39, _⟩ => ⟨S2x16384x1024, .f32⟩
  | .hbm, ⟨40, _⟩ => ⟨S2x16384x1024, .f32⟩
  | .hbm, ⟨41, _⟩ => ⟨S1024x3072, .f32⟩
  | .hbm, ⟨42, _⟩ => ⟨S3x1024, .f32⟩
  | .hbm, ⟨43, _⟩ => ⟨S1024x1024, .f32⟩
  | .hbm, ⟨44, _⟩ => ⟨S2x16384x3072, .f32⟩
  | .hbm, ⟨45, _⟩ => ⟨S2x16384x1024, .f32⟩
  | .hbm, ⟨46, _⟩ => ⟨S2x16384x1024, .f32⟩
  | .hbm, ⟨47, _⟩ => ⟨S2x16384x1024, .f32⟩
  | .hbm, ⟨48, _⟩ => ⟨S2x16384x1024, .f32⟩
  | .hbm, ⟨49, _⟩ => ⟨S_, .i32⟩
  | .hbm, ⟨50, _⟩ => ⟨S_, .f32⟩
  | .hbm, ⟨51, _⟩ => ⟨S2x16386x1024, .f32⟩
  | .hbm, ⟨52, _⟩ => ⟨S1x1024, .f32⟩
  | .hbm, ⟨53, _⟩ => ⟨S1024, .f32⟩
  | .hbm, ⟨54, _⟩ => ⟨S1x1024, .f32⟩
  | .hbm, ⟨55, _⟩ => ⟨S1024, .f32⟩
  | .hbm, ⟨56, _⟩ => ⟨S1x1024, .f32⟩
  | .hbm, ⟨57, _⟩ => ⟨S1024, .f32⟩
  | .hbm, ⟨58, _⟩ => ⟨S2x16384x1024, .f32⟩
  | .hbm, ⟨59, _⟩ => ⟨S1x1x1024, .f32⟩
  | .hbm, ⟨60, _⟩ => ⟨S2x16384x1024, .f32⟩
  | .hbm, ⟨61, _⟩ => ⟨S2x16384x1024, .f32⟩
  | .hbm, ⟨62, _⟩ => ⟨S2x16384x1024, .f32⟩
  | .hbm, ⟨63, _⟩ => ⟨S1x1x1024, .f32⟩
  | .hbm, ⟨64, _⟩ => ⟨S2x16384x1024, .f32⟩
  | .hbm, ⟨65, _⟩ => ⟨S2x16384x1024, .f32⟩
  | .hbm, ⟨66, _⟩ => ⟨S2x16384x1024, .f32⟩
  | .hbm, ⟨67, _⟩ => ⟨S2x16384x1024, .f32⟩
  | .hbm, ⟨68, _⟩ => ⟨S1x1x1024, .f32⟩
  | .hbm, ⟨69, _⟩ => ⟨S2x16384x1024, .f32⟩
  | .hbm, ⟨70, _⟩ => ⟨S2x16384x1024, .f32⟩
  | .hbm, ⟨71, _⟩ => ⟨S2x16384x1024, .f32⟩
  | .hbm, ⟨72, _⟩ => ⟨S2x16384x1024, .f32⟩
  | .hbm, ⟨73, _⟩ => ⟨S2x16384x1024, .f32⟩
  | .hbm, ⟨74, _⟩ => ⟨S1x1024, .f32⟩
  | .hbm, ⟨75, _⟩ => ⟨S1024, .f32⟩
  | .hbm, ⟨76, _⟩ => ⟨S2x16384x1024, .f32⟩
  | .hbm, ⟨77, _⟩ => ⟨S_, .f32⟩
  | .hbm, ⟨78, _⟩ => ⟨S2x16384, .f32⟩
  | .hbm, ⟨79, _⟩ => ⟨S2x16384x1, .f32⟩
  | .hbm, ⟨80, _⟩ => ⟨S_, .f32⟩
  | .hbm, ⟨81, _⟩ => ⟨S2x16384x1, .f32⟩
  | .hbm, ⟨82, _⟩ => ⟨S2x16384x1, .f32⟩
  | .hbm, ⟨83, _⟩ => ⟨S_, .f32⟩
  | .hbm, ⟨84, _⟩ => ⟨S2x16384x1, .f32⟩
  | .hbm, ⟨85, _⟩ => ⟨S2x16384x1, .f32⟩
  | .hbm, ⟨86, _⟩ => ⟨S2x16384x1, .f32⟩
  | .hbm, ⟨87, _⟩ => ⟨S2x16384x1024, .f32⟩
  | .hbm, ⟨88, _⟩ => ⟨S2x16384x1024, .f32⟩
  | .hbm, ⟨89, _⟩ => ⟨S1x1x1024, .f32⟩
  | .hbm, ⟨90, _⟩ => ⟨S2x16384x1024, .f32⟩
  | .hbm, ⟨91, _⟩ => ⟨S2x16384x1024, .f32⟩
  | .hbm, ⟨92, _⟩ => ⟨S2x16384x1024, .f32⟩
  | .hbm, ⟨93, _⟩ => ⟨S2x16384x1024, .f32⟩
  | .hbm, ⟨94, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c : Ref sig .tc := ⟨.hbm, 49, rfl⟩
abbrev main_call0_v0 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_cst_3 : Ref sig .tc := ⟨.hbm, 77, rfl⟩
abbrev main_v64 : Ref sig .tc := ⟨.hbm, 78, rfl⟩
abbrev main_v65 : Ref sig .tc := ⟨.hbm, 79, rfl⟩
abbrev main_cst_4 : Ref sig .tc := ⟨.hbm, 80, rfl⟩
abbrev main_v66 : Ref sig .tc := ⟨.hbm, 81, rfl⟩
abbrev main_v67 : Ref sig .tc := ⟨.hbm, 82, rfl⟩
abbrev main_cst_5 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩

abbrev nD : Nat := 1
abbrev τ : Topo := Topo.v7x

variable {F : FTy → Type} [FloatOps F]
-- ==== Ctx.lean ====
abbrev S2x256x1024 : Shape := ⟨3, ![2, 256, 1024]⟩
abbrev S2x6x8x1024 : Shape := ⟨4, ![2, 6, 8, 1024]⟩
abbrev S2x1024 : Shape := ⟨2, ![2, 1024]⟩
abbrev S1x1024x1792 : Shape := ⟨3, ![1, 1024, 1792]⟩
abbrev S1024x1792 : Shape := ⟨2, ![1024, 1792]⟩
abbrev S1024x256 : Shape := ⟨2, ![1024, 256]⟩
abbrev S2x1x1024 : Shape := ⟨3, ![2, 1, 1024]⟩
abbrev S2x256x128 : Shape := ⟨3, ![2, 256, 128]⟩
abbrev S1x256x1024 : Shape := ⟨3, ![1, 256, 1024]⟩
abbrev S1x1x8x1024 : Shape := ⟨4, ![1, 1, 8, 1024]⟩
abbrev S1x1x1024 : Shape := ⟨3, ![1, 1, 1024]⟩
abbrev S1x256x128 : Shape := ⟨3, ![1, 256, 128]⟩
abbrev S1x1x1x1024 : Shape := ⟨4, ![1, 1, 1, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S256x256 : Shape := ⟨2, ![256, 256]⟩
abbrev S256x128 : Shape := ⟨2, ![256, 128]⟩

abbrev nBuf : Space → Nat
  | .hbm => 10
  | .vmem => 10
  | .smem => 0
  | _ => 0

abbrev bufTy : (tb : Table) → Fin (tcTables nBuf tb) → BufTy
  | .hbm, ⟨0, _⟩ => ⟨S2x256x1024, .f32⟩
  | .hbm, ⟨1, _⟩ => ⟨S2x6x8x1024, .f32⟩
  | .hbm, ⟨2, _⟩ => ⟨S2x1024, .f32⟩
  | .hbm, ⟨3, _⟩ => ⟨S1x1024x1792, .f32⟩
  | .hbm, ⟨4, _⟩ => ⟨S1024x1792, .f32⟩
  | .hbm, ⟨5, _⟩ => ⟨S1024x256, .f32⟩
  | .hbm, ⟨6, _⟩ => ⟨S1024x256, .bf16⟩
  | .hbm, ⟨7, _⟩ => ⟨S2x1x1024, .f32⟩
  | .hbm, ⟨8, _⟩ => ⟨S2x256x128, .bf16⟩
  | .hbm, ⟨9, _⟩ => ⟨S2x256x128, .bf16⟩
  | .local _ .vmem, ⟨0, _⟩ => ⟨S1x256x1024, .f32⟩
  | .local _ .vmem, ⟨1, _⟩ => ⟨S1x256x1024, .f32⟩
  | .local _ .vmem, ⟨2, _⟩ => ⟨S1x1x8x1024, .f32⟩
  | .local _ .vmem, ⟨3, _⟩ => ⟨S1x1x8x1024, .f32⟩
  | .local _ .vmem, ⟨4, _⟩ => ⟨S1x1x1024, .f32⟩
  | .local _ .vmem, ⟨5, _⟩ => ⟨S1024x256, .bf16⟩
  | .local _ .vmem, ⟨6, _⟩ => ⟨S1x256x128, .bf16⟩
  | .local _ .vmem, ⟨7, _⟩ => ⟨S1x256x128, .bf16⟩
  | .local _ .vmem, ⟨8, _⟩ => ⟨S1x256x128, .bf16⟩
  | .local _ .vmem, ⟨9, _⟩ => ⟨S1x256x128, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== CtxRefIdeal.lean ====
abbrev S2x256x1024 : Shape := ⟨3, ![2, 256, 1024]⟩
abbrev S2x6x8x1024 : Shape := ⟨4, ![2, 6, 8, 1024]⟩
abbrev S2x1024 : Shape := ⟨2, ![2, 1024]⟩
abbrev S1x1024x1792 : Shape := ⟨3, ![1, 1024, 1792]⟩
abbrev S1x1x1x1024 : Shape := ⟨4, ![1, 1, 1, 1024]⟩
abbrev S1024 : Shape := ⟨1, ![1024]⟩
abbrev S1x1024 : Shape := ⟨2, ![1, 1024]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S1024x1792 : Shape := ⟨2, ![1024, 1792]⟩
abbrev S1024x256 : Shape := ⟨2, ![1024, 256]⟩
abbrev S2x256x256 : Shape := ⟨3, ![2, 256, 256]⟩
abbrev S2x256x128 : Shape := ⟨3, ![2, 256, 128]⟩

abbrev nBuf : Space → Nat
  | .hbm => 42
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x6x8x1024, .f32⟩
  | .hbm, ⟨2, _⟩ => ⟨S2x1024, .f32⟩
  | .hbm, ⟨3, _⟩ => ⟨S1x1024x1792, .f32⟩
  | .hbm, ⟨4, _⟩ => ⟨S1x1x1x1024, .f32⟩
  | .hbm, ⟨5, _⟩ => ⟨S1024, .f32⟩
  | .hbm, ⟨6, _⟩ => ⟨S1x1x1x1024, .f32⟩
  | .hbm, ⟨7, _⟩ => ⟨S1024, .f32⟩
  | .hbm, ⟨8, _⟩ => ⟨S1x1024, .f32⟩
  | .hbm, ⟨9, _⟩ => ⟨S1024, .f32⟩
  | .hbm, ⟨10, _⟩ => ⟨S2x256x1024, .f32⟩
  | .hbm, ⟨11, _⟩ => ⟨S_, .f32⟩
  | .hbm, ⟨12, _⟩ => ⟨S2x256, .f32⟩
  | .hbm, ⟨13, _⟩ => ⟨S2x256x1, .f32⟩
  | .hbm, ⟨14, _⟩ => ⟨S_, .f32⟩
  | .hbm, ⟨15, _⟩ => ⟨S2x256x1, .f32⟩
  | .hbm, ⟨16, _⟩ => ⟨S2x256x1, .f32⟩
  | .hbm, ⟨17, _⟩ => ⟨S_, .f32⟩
  | .hbm, ⟨18, _⟩ => ⟨S2x256x1, .f32⟩
  | .hbm, ⟨19, _⟩ => ⟨S2x256x1, .f32⟩
  | .hbm, ⟨20, _⟩ => ⟨S2x256x1, .f32⟩
  | .hbm, ⟨21, _⟩ => ⟨S2x256x1024, .f32⟩
  | .hbm, ⟨22, _⟩ => ⟨S2x256x1024, .f32⟩
  | .hbm, ⟨23, _⟩ => ⟨S1x1x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1x1x1024, .f32⟩
  | .hbm, ⟨30, _⟩ => ⟨S2x256x1024, .f32⟩
  | .hbm, ⟨31, _⟩ => ⟨S2x256x1024, .f32⟩
  | .hbm, ⟨32, _⟩ => ⟨S1x1x1024, .f32⟩
  | .hbm, ⟨33, _⟩ => ⟨S2x256x1024, .f32⟩
  | .hbm, ⟨34, _⟩ => ⟨S2x256x1024, .f32⟩
  | .hbm, ⟨35, _⟩ => ⟨S1024x1792, .f32⟩
  | .hbm, ⟨36, _⟩ => ⟨S1024x256, .f32⟩
  | .hbm, ⟨37, _⟩ => ⟨S2x256x256, .f32⟩
  | .hbm, ⟨38, _⟩ => ⟨S2x256x128, .f32⟩
  | .hbm, ⟨39, _⟩ => ⟨S2x256x128, .f32⟩
  | .hbm, ⟨40, _⟩ => ⟨S2x256x128, .bf16⟩
  | .hbm, ⟨41, _⟩ => ⟨S2x256x128, .bf16⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩

abbrev nD : Nat := 1
abbrev τ : Topo := Topo.v7x

variable {F : FTy → Type} [FloatOps F]
-- ==== Mod.lean ====
abbrev S2x1024 : Shape := ⟨2, ![2, 1024]⟩
abbrev S1024 : Shape := ⟨1, ![1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S5x1024 : Shape := ⟨2, ![5, 1024]⟩
abbrev S8x1024 : Shape := ⟨2, ![8, 1024]⟩
abbrev S2x6x1x1024 : Shape := ⟨4, ![2, 6, 1, 1024]⟩
abbrev S2x6x8x1024 : Shape := ⟨4, ![2, 6, 8, 1024]⟩
abbrev S1x1024x1024 : Shape := ⟨3, ![1, 1024, 1024]⟩
abbrev S1x1x1x1024 : Shape := ⟨4, ![1, 1, 1, 1024]⟩
abbrev S1x1x8x1024 : Shape := ⟨4, ![1, 1, 8, 1024]⟩
abbrev S1024x1024 : Shape := ⟨2, ![1024, 1024]⟩

abbrev nBuf : Space → Nat
  | .hbm => 10
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S5x1024, .f32⟩
  | .hbm, ⟨7, _⟩ => ⟨S8x1024, .f32⟩
  | .hbm, ⟨8, _⟩ => ⟨S2x6x1x1024, .f32⟩
  | .hbm, ⟨9, _⟩ => ⟨S2x6x8x1024, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x8x1024, .f32⟩
  | .local _ .vmem, ⟨6, _⟩ => ⟨S1x1x8x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModRefIdeal.lean ====
abbrev S2x1024 : Shape := ⟨2, ![2, 1024]⟩
abbrev S1024 : Shape := ⟨1, ![1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S5x1024 : Shape := ⟨2, ![5, 1024]⟩
abbrev S8x1024 : Shape := ⟨2, ![8, 1024]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩
abbrev S8x6x1024 : Shape := ⟨3, ![8, 6, 1024]⟩
abbrev S6x8x1024 : Shape := ⟨3, ![6, 8, 1024]⟩
abbrev S1x6x8x1024 : Shape := ⟨4, ![1, 6, 8, 1024]⟩
abbrev S2x6x8x1024 : Shape := ⟨4, ![2, 6, 8, 1024]⟩

abbrev nBuf : Space → Nat
  | .hbm => 49
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S5x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S1x1024x6144, .f32⟩
  | .hbm, ⟨18, _⟩ => ⟨S1024x6144, .f32⟩
  | .hbm, ⟨19, _⟩ => ⟨S8x6144, .f32⟩
  | .hbm, ⟨20, _⟩ => ⟨S1x6144, .f32⟩
  | .hbm, ⟨21, _⟩ => ⟨S6144, .f32⟩
  | .hbm, ⟨22, _⟩ => ⟨S1x6144, .f32⟩
  | .hbm, ⟨23, _⟩ => ⟨S8x6144, .f32⟩
  | .hbm, ⟨24, _⟩ => ⟨S8x6144, .f32⟩
  | .hbm, ⟨25, _⟩ => ⟨S8x1024, .f32⟩
  | .hbm, ⟨26, _⟩ => ⟨S8x1024, .f32⟩
  | .hbm, ⟨27, _⟩ => ⟨S_, .f32⟩
  | .hbm, ⟨28, _⟩ => ⟨S8x1024, .f32⟩
  | .hbm, ⟨29, _⟩ => ⟨S8x1024, .f32⟩
  | .hbm, ⟨30, _⟩ => ⟨S_, .f32⟩
  | .hbm, ⟨31, _⟩ => ⟨S8x1024, .f32⟩
  | .hbm, ⟨32, _⟩ => ⟨S8x1024, .f32⟩
  | .hbm, ⟨33, _⟩ => ⟨S8x1024, .f32⟩
  | .hbm, ⟨34, _⟩ => ⟨S1x1024x6144, .f32⟩
  | .hbm, ⟨35, _⟩ => ⟨S1024x6144, .f32⟩
  | .hbm, ⟨36, _⟩ => ⟨S8x6144, .f32⟩
  | .hbm, ⟨37, _⟩ => ⟨S1x6144, .f32⟩
  | .hbm, ⟨38, _⟩ => ⟨S6144, .f32⟩
  | .hbm, ⟨39, _⟩ => ⟨S1x6144, .f32⟩
  | .hbm, ⟨40, _⟩ => ⟨S8x6144, .f32⟩
  | .hbm, ⟨41, _⟩ => ⟨S8x6144, .f32⟩
  | .hbm, ⟨42, _⟩ => ⟨S8x6x1024, .f32⟩
  | .hbm, ⟨43, _⟩ => ⟨S6x8x1024, .f32⟩
  | .hbm, ⟨44, _⟩ => ⟨S8x6x1024, .f32⟩
  | .hbm, ⟨45, _⟩ => ⟨S6x8x1024, .f32⟩
  | .hbm, ⟨46, _⟩ => ⟨S1x6x8x1024, .f32⟩
  | .hbm, ⟨47, _⟩ => ⟨S1x6x8x1024, .f32⟩
  | .hbm, ⟨48, _⟩ => ⟨S2x6x8x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_call1_v0 : Ref sig .tc := ⟨.hbm, 25, rfl⟩
abbrev main_call1_v1 : Ref sig .tc := ⟨.hbm, 26, rfl⟩
abbrev main_call1_cst : Ref sig .tc := ⟨.hbm, 27, rfl⟩
abbrev main_call1_v2 : Ref sig .tc := ⟨.hbm, 28, rfl⟩
abbrev main_call1_v3 : Ref sig .tc := ⟨.hbm, 29, rfl⟩
abbrev main_call1_cst_0 : Ref sig .tc := ⟨.hbm, 30, rfl⟩
abbrev main_call1_v4 : Ref sig .tc := ⟨.hbm, 31, rfl⟩
abbrev main_call1_v5 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩

abbrev nD : Nat := 1
abbrev τ : Topo := Topo.v7x

variable {F : FTy → Type} [FloatOps F]
-- ==== Proof.FfnRows.lean ====
module

public import Idealize.ShloMosaic.Lib.Pointwise

@[expose] public section

/-! The feed-forward block on one token, as plain functions of its row: the formula both programs are
read to. -/

set_option maxRecDepth 16384

noncomputable section

open Idealize.ShloMosaic Idealize.ShloMosaic.TcCoe Idealize.SL.Sem

namespace Cert.FfnRows

/-- The row divided by its root mean square, times a weight. -/
def normed (x g : Fin 1024 → EReal) (j : Fin 1024) : EReal :=
  x j * Ideal.rsqrt (Ideal.div (∑ k : Fin 1024, x k * x k) (Ideal.ofBits .f32 0x44800000#32) + Ideal.ofBits .f32 0x358637BD#32) * g j

/-- The normed row, scaled by one plus `sc` and shifted by `sh`. -/
def modded (x g sh sc : Fin 1024 → EReal) (j : Fin 1024) : EReal :=
  normed x g j * (1 + sc j) + sh j

/-- One hidden unit: the gated product of the two projections of the row. -/
def hidden (h a b : Fin 1024 → EReal) : EReal :=
  (∑ d : Fin 1024, h d * a d) * Ideal.logistic (∑ d : Fin 1024, h d * a d) * ∑ d : Fin 1024, h d * b d

/-- The hidden units projected back, column `j`. -/
def swiglu (h : Fin 1024 → EReal) (w1 w3 : Fin 1024 → Fin 2816 → EReal) (w2 : Fin 2816 → Fin 1024 → EReal) (j : Fin 1024) : EReal :=
  ∑ f : Fin 2816, hidden h (fun d => w1 d f) (fun d => w3 d f) * w2 f j

/-- The block's result on one token. -/
def out (x g1 sh sc gt g2 : Fin 1024 → EReal) (w1 w3 : Fin 1024 → Fin 2816 → EReal) (w2 : Fin 2816 → Fin 1024 → EReal) (j : Fin 1024) : EReal :=
  x j + gt j * normed (swiglu (modded x g1 sh sc) w1 w3 w2) g2 j

theorem out_congr {x x' g1 g1' sh sh' sc sc' gt gt' g2 g2' : Fin 1024 → EReal} {w1 w1' w3 w3' : Fin 1024 → Fin 2816 → EReal}
    {w2 w2' : Fin 2816 → Fin 1024 → EReal} {j j' : Fin 1024} (h0 : ∀ k, x k = x' k) (h1 : ∀ k, g1 k = g1' k) (h2 : ∀ k, sh k = sh' k)
    (h3 : ∀ k, sc k = sc' k) (h4 : ∀ k, gt k = gt' k) (h5 : ∀ k, g2 k = g2' k) (h6 : ∀ d f, w1 d f = w1' d f)
    (h7 : ∀ d f, w3 d f = w3' d f) (h8 : ∀ f k, w2 f k = w2' f k) (h9 : j = j') :
    out x g1 sh sc gt g2 w1 w3 w2 j = out x' g1' sh' sc' gt' g2' w1' w3' w2' j' := by
  obtain rfl := funext h0; obtain rfl := funext h1; obtain rfl := funext h2; obtain rfl := funext h3; obtain rfl := funext h4
  obtain rfl := funext h5; obtain rfl := funext fun d => funext (h6 d); obtain rfl := funext fun d => funext (h7 d)
  obtain rfl := funext fun d => funext (h8 d); rw [h9]

end Cert.FfnRows

end
-- ==== Proof.FfnBlock.lean ====
module

public import proofs.«01_k».proof.Proof.Gen.FfnIdeal.Value
public import proofs.«01_k».proof.Proof.FfnRows
public import Idealize.ShloMosaic.Lib.Pipeline.ValueKit
public import Idealize.ShloMosaic.Lib.Pipeline.ReadBack

@[expose] public section

/-! What the feed-forward kernel leaves: eleven partial contractions over the hidden axis add up to the
whole one, and each grid point writes its own 512 tokens. -/

set_option maxRecDepth 16384

noncomputable section

open Idealize.ShloMosaic Idealize.ShloMosaic.TcCoe Idealize.SL.Sem
open Idealize.ShloMosaic.Pipeline (Dat)
open Cert.FfnIdeal Cert.FfnIdeal.Gen Cert.FfnRows

namespace Cert.FfnBlock

/-- One chunk's share of the block: 256 hidden units projected back. -/
def part (h : FVec Ideal S512x1024 .bf16) (a b : FVec Ideal S1x1024x256 .bf16) (w : FVec Ideal S1x256x1024 .bf16) (r : Fin 512) (k : Fin 1024) : EReal :=
  ∑ f : Fin 256, hidden (fun d => h (ix2 r d)) (fun d => a (ix3 0 d f)) (fun d => b (ix3 0 d f)) * w (ix3 0 f k)

section Payloads
variable (h : FVec Ideal S512x1024 .bf16) (a b : FVec Ideal S1x1024x256 .bf16) (w : FVec Ideal S1x256x1024 .bf16) (acc : FVec Ideal S512x1024 .f32) (r : Fin 512) (k : Fin 1024)

theorem pay4_apply (x : FVec Ideal S1x512x1024 .f32) (g : FVec Ideal S1x1x1024 .f32) (sh sc : FVec Ideal S1x1x1x1024 .f32) (d : Fin 1024) :
    k0_pay4 (F := Ideal) x g sh sc (ix2 r d)
      = modded (fun j => x (ix3 0 r j)) (fun j => g (ix3 0 0 j)) (fun j => sh (ix4 0 0 0 j)) (fun j => sc (ix4 0 0 0 j)) d := by
  pointwise [k0_pay4, k0_pay3]; rfl

theorem chunk0 (x : FVec Ideal S1x512x1024 .f32) (g : FVec Ideal S1x1x1024 .f32) (sh sc : FVec Ideal S1x1x1x1024 .f32) :
    k0_pay6 (F := Ideal) (k0_pay4 x g sh sc) (k0_pay5 x g sh sc a) b w (ix2 r k) = part (k0_pay4 x g sh sc) a b w r k := by
  pointwise [k0_pay6, k0_pay5]; rfl

theorem chunk1 : k0_pay7 (F := Ideal) h a b w acc (ix2 r k) = acc (ix2 r k) + part h a b w r k := by
  pointwise [k0_pay7]; rfl

theorem chunk2 : k0_pay9 (F := Ideal) h (k0_pay8 h a) b w acc (ix2 r k) = acc (ix2 r k) + part h a b w r k := by
  pointwise [k0_pay9, k0_pay8]; rfl

theorem chunk3 : k0_pay11 (F := Ideal) (k0_pay10 h a b w acc) (ix2 r k) = acc (ix2 r k) + part h a b w r k := by
  pointwise [k0_pay11, k0_pay10]; rfl

theorem chunk4 : k0_pay12 (F := Ideal) h a b w acc (ix2 r k) = acc (ix2 r k) + part h a b w r k := by
  pointwise [k0_pay12]; rfl

theorem chunk5 : k0_pay14 (F := Ideal) (k0_pay13 h a b) w acc (ix2 r k) = acc (ix2 r k) + part h a b w r k := by
  pointwise [k0_pay14, k0_pay13]; rfl

theorem chunk6 : k0_pay15 (F := Ideal) h a b w acc (ix2 r k) = acc (ix2 r k) + part h a b w r k := by
  pointwise [k0_pay15]; rfl

theorem chunk7 : k0_pay17 (F := Ideal) h (k0_pay16 h a) b w acc (ix2 r k) = acc (ix2 r k) + part h a b w r k := by
  pointwise [k0_pay17, k0_pay16]; rfl

theorem chunk8 : k0_pay18 (F := Ideal) h a b w acc (ix2 r k) = acc (ix2 r k) + part h a b w r k := by
  pointwise [k0_pay18]; rfl

theorem chunk9 : k0_pay19 (F := Ideal) h a b w acc (ix2 r k) = acc (ix2 r k) + part h a b w r k := by
  pointwise [k0_pay19]; rfl

theorem chunk10 : k0_pay1 (F := Ideal) (k0_pay20 h a b w) acc (ix2 r k) = acc (ix2 r k) + part h a b w r k := by
  pointwise [k0_pay1, k0_pay20]; rfl

theorem last_apply (x : FVec Ideal S1x512x1024 .f32) (gt : FVec Ideal S1x1x1x1024 .f32) (g : FVec Ideal S1x1x1024 .f32) :
    k0_pay2 (F := Ideal) (k0_pay3 x) gt acc g (ix3 0 r k)
      = x (ix3 0 r k) + gt (ix4 0 0 0 k) * normed (fun j => acc (ix2 r j)) (fun j => g (ix3 0 0 j)) k := by
  pointwise [k0_pay2, k0_pay3]; rfl

end Payloads

theorem eleven (g : Fin 11 → EReal) :
    ∑ j, g j = g 0 + g 1 + g 2 + g 3 + g 4 + g 5 + g 6 + g 7 + g 8 + g 9 + g 10 := by
  rw [Fin.sum_univ_castSucc, Fin.sum_univ_castSucc, Fin.sum_univ_castSucc, Fin.sum_univ_eight]; rfl

/-- A sum over 2816 terms, taken 256 at a time. -/
theorem sum11 (F : Fin 2816 → EReal) :
    ((((((((((∑ f : Fin 256, F ⟨f.val, by omega⟩) + (∑ f : Fin 256, F ⟨256 + f.val, by omega⟩)) + (∑ f : Fin 256, F ⟨512 + f.val, by omega⟩)) + (∑ f : Fin 256, F ⟨768 + f.val, by omega⟩)) + (∑ f : Fin 256, F ⟨1024 + f.val, by omega⟩)) + (∑ f : Fin 256, F ⟨1280 + f.val, by omega⟩)) + (∑ f : Fin 256, F ⟨1536 + f.val, by omega⟩)) + (∑ f : Fin 256, F ⟨1792 + f.val, by omega⟩)) + (∑ f : Fin 256, F ⟨2048 + f.val, by omega⟩)) + (∑ f : Fin 256, F ⟨2304 + f.val, by omega⟩)) + (∑ f : Fin 256, F ⟨2560 + f.val, by omega⟩) = ∑ f : Fin 2816, F f := by
  refine Eq.trans ?_ ((Fin.sum_univ_tiles 11 256 rfl F).trans (eleven _)).symm
  refine congrArg₂ (· + ·) (congrArg₂ (· + ·) (congrArg₂ (· + ·) (congrArg₂ (· + ·) (congrArg₂ (· + ·) (congrArg₂ (· + ·)
    (congrArg₂ (· + ·) (congrArg₂ (· + ·) (congrArg₂ (· + ·) (congrArg₂ (· + ·) ?_ ?_) ?_) ?_) ?_) ?_) ?_) ?_) ?_) ?_) ?_
  · exact Finset.sum_congr rfl fun f _ => congrArg F (Fin.ext (by simp))
  all_goals rfl

variable (m : (ℓ : Loc nD τ sig) → Buf (Elt Ideal) ℓ)

theorem idx : ∀ t : Fin cfg0.N, win0_0.index t = ![t.val / 32, t.val % 32, 0]
    ∧ win0_1.index t = ![0, 3, 0, 0] ∧ win0_2.index t = ![0, 4, 0, 0] ∧ win0_3.index t = ![0, 5, 0, 0]
    ∧ win0_4.index t = ![0, 0, 0] ∧ win0_5.index t = ![0, 0, 0]
    ∧ win0_6.index t = ![0, 0, 0] ∧ win0_7.index t = ![0, 0, 0] ∧ win0_8.index t = ![0, 0, 0]
    ∧ win0_9.index t = ![t.val / 32, t.val % 32, 0] :=
  (by decide +kernel : ∀ t : Fin grid0.N, _)

/-- The row of the modulation table a grid point reads is its batch element's. -/
theorem off1 : ∀ t : Fin cfg0.N, k0_off1 (grid0.coords t) = ![0, 0, t.val / 32, 0] :=
  (by decide +kernel : ∀ t : Fin grid0.N, _)

set_option maxHeartbeats 2000000 in
theorem point (c : Dev nD) (t : Fin cfg0.N) (r : Fin 512) (k : Fin 1024) :
    (show EReal from outsAt0 m c t (ix3 0 r k))
      = out (fun j => iblk m c 0 t (ix3 0 r j)) (fun j => iblk m c 4 t (ix3 0 0 j))
          (fun j => iblk m c 1 t (ix4 0 0 ⟨t.val / 32, by have := t.isLt; change t.val < 64 at this; omega⟩ j))
          (fun j => iblk m c 2 t (ix4 0 0 ⟨t.val / 32, by have := t.isLt; change t.val < 64 at this; omega⟩ j))
          (fun j => iblk m c 3 t (ix4 0 0 ⟨t.val / 32, by have := t.isLt; change t.val < 64 at this; omega⟩ j))
          (fun j => iblk m c 5 t (ix3 0 0 j))
          (fun d f => iblk m c 6 t (ix3 0 d f)) (fun d f => iblk m c 7 t (ix3 0 d f)) (fun f j => iblk m c 8 t (ix3 0 f j)) k := by
  unfold outsAt0 out0_A_9
  frame_open
  simp (disch := decide) only [↓ View.readCov_skip, ↓ View.readCov_cons_toLoadRect, ↓ View.readCov_fill]
  frame_out
  refine (last_apply _ _ _ _ _ _).trans ?_
  simp only [chunk10, chunk9, chunk8, chunk7, chunk6, chunk5, chunk4, chunk3, chunk2, chunk1, chunk0, part, pay4_apply]
  unfold out swiglu
  simp only [← sum11]
  pointwise [off1 t]

/-- The block's formula over the kernel's arguments. -/
def G (x : FVec Ideal S2x16384x1024 .f32) (md : FVec Ideal S2x6x8x1024 .f32) (g1 g2 : FVec Ideal S2x1024 .f32)
    (w1 w3 : FVec Ideal S2x1024x2816 .f32) (w2 : FVec Ideal S2x2816x1024 .f32) (b : Fin 2) (s : Fin 16384) (j : Fin 1024) : EReal :=
  FfnRows.out (fun k => x (ix3 b s k)) (fun k => g1 (ix2 0 k)) (fun k => md (ix4 0 3 ⟨b.val, by omega⟩ k))
    (fun k => md (ix4 0 4 ⟨b.val, by omega⟩ k)) (fun k => md (ix4 0 5 ⟨b.val, by omega⟩ k)) (fun k => g2 (ix2 0 k))
    (fun d f => w1 (ix3 0 d f)) (fun d f => w3 (ix3 0 d f)) (fun f k => w2 (ix3 0 f k)) j

/-- `G` at the kernel's memory, as an array. -/
def result (c : Dev nD) : FVec Ideal S2x16384x1024 .f32 := fun i =>
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (i 0) (i 1) (i 2)

set_option maxHeartbeats 2000000 in
theorem final (c : Dev nD) : (dats m 0 c).arrAt 9 cfg0.N = result m c := by
  refine (dats m 0 c).arrAt_eq_of_covers 9 _ (by decide +kernel) fun t _ y => ?_
  blk_simp
  rw [after0_9]
  idx_vars y
  obtain rfl : y0 = 0 := Subsingleton.elim _ _
  refine (point m c t y1 y2).trans ?_
  unfold result G
  refine out_congr (fun j => ?_) (fun j => ?_) (fun j => ?_) (fun j => ?_) (fun j => ?_) (fun j => ?_) (fun d f => ?_) (fun d f => ?_)
    (fun f j => ?_) ?_
  all_goals first | (blk_ext [iblk, V, idx t]; done) | (blk_point [iblk, V, idx t]; done) | skip
  exact Fin.ext (by blk_simp [idx t])

end Cert.FfnBlock

end
-- ==== Proof.FfnRefRow.lean ====
module

public import proofs.«01_k».proof.Proof.Gen.FfnRefIdeal.Run
public import proofs.«01_k».proof.Proof.FfnRows
public import Idealize.ShloMosaic.Lib.Pointwise

@[expose] public section

/-! The reference's result of the feed-forward block, read at one entry. -/

set_option maxRecDepth 16384

noncomputable section

open Idealize.ShloMosaic Idealize.ShloMosaic.TcCoe Idealize.SL.Sem
open Cert.FfnRefIdeal Cert.FfnRefIdeal.Value

namespace Cert.FfnRefRow

/-- The feed-forward block's formula over the arrays, at batch `b`, token `s`, column `j`. -/
def G (x : FVec Ideal S2x16384x1024 .f32) (md : FVec Ideal S2x6x8x1024 .f32) (g1 g2 : FVec Ideal S2x1024 .f32)
    (w1 w3 : FVec Ideal S2x1024x2816 .f32) (w2 : FVec Ideal S2x2816x1024 .f32) (b : Fin 2) (s : Fin 16384) (j : Fin 1024) : EReal :=
  FfnRows.out (fun k => x (ix3 b s k)) (fun k => g1 (ix2 0 k)) (fun k => md (ix4 0 3 ⟨b.val, by omega⟩ k))
    (fun k => md (ix4 0 4 ⟨b.val, by omega⟩ k)) (fun k => md (ix4 0 5 ⟨b.val, by omega⟩ k)) (fun k => g2 (ix2 0 k))
    (fun d f => w1 (ix3 0 d f)) (fun d f => w3 (ix3 0 d f)) (fun f k => w2 (ix3 0 f k)) j

set_option maxHeartbeats 2000000 in
theorem res_apply (m : (ℓ : Loc nD τ sig) → Buf (Elt Ideal) ℓ) (c : Dev nD) (b : Fin 2) (s : Fin 16384) (j : Fin 1024) :
    res_main_v58 (F := Ideal) m c (ix3 b s j)
      = G (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) b s j := by
  unfold G FfnRows.out FfnRows.normed FfnRows.swiglu FfnRows.hidden FfnRows.modded FfnRows.normed
  pointwise [res_main_v58]
  rfl

end Cert.FfnRefRow

end
-- ==== Proof.FfnClaim.lean ====
module

public import proofs.«01_k».proof.Defs
public import proofs.«01_k».proof.Proof.Gen.Ffn.Frame
public import proofs.«01_k».proof.Proof.FfnBlock
public import proofs.«01_k».proof.Proof.FfnRefRow
public import Idealize.ShloMosaic.Lib.Claim
public import Idealize.ShloMosaic.Lib.Quiescent

@[expose] public section

/-! The claims about the feed-forward block. -/

set_option maxRecDepth 16384

noncomputable section

open Idealize.ShloMosaic Idealize.ShloMosaic.TcCoe Idealize.SL.Sem

namespace Cert.FfnClaim

theorem reference_runs : Cert.quiescent_FfnRefIdeal (hFfnRefIdeal := Cert.FfnRefIdeal.Gen.facts) := by
  intro m g _
  hlo_run
  · intro _; simp only [and_self]
  · exact sem_eq_zero_of_no_sems (sig := Cert.FfnRefIdeal.sig) (by decide) _

theorem equal : Cert.algebraic_FfnIdeal_FfnRefIdeal (hFfnIdeal := Cert.FfnIdeal.Gen.facts) (hFfnRefIdeal := Cert.FfnRefIdeal.Gen.facts) := by
  intro m g m' g' _ hag
  refine ⟨fun c => FfnBlock.result m c, ?_, ?_⟩
  · exact (θ_run _ _ _).mono (fun r h c => ⟨(h c).1.trans (FfnBlock.final m c), (h c).2⟩) (Cert.FfnIdeal.Value.run_blocks m g)
  · refine (θ_run _ _ _).mono (fun r h c => ⟨(h c).1.trans ?_, (h c).2⟩) (Cert.FfnRefIdeal.Value.run m' g')
    funext i
    idx_vars i
    refine (FfnRefRow.res_apply m' c i0 i1 i2).trans ?_
    obtain ⟨a0, a1, a2, a3, a4, a5, a6⟩ := hag c
    rw [a0, a1, a2, a3, a4, a5, a6]
    rfl

end Cert.FfnClaim

end
-- ==== Proof.ConvRows.lean ====
module

public import proofs.«01_k».proof.Proof.FfnRows

@[expose] public section

/-! The convolution mixer on one token, as plain functions of its row and of its two neighbours. -/

set_option maxRecDepth 16384

noncomputable section

open Idealize.ShloMosaic Idealize.ShloMosaic.TcCoe Idealize.SL.Sem

namespace Cert.ConvRows

/-- Two of the row's three projections, multiplied: what the convolution mixes. -/
def gated (h : Fin 1024 → EReal) (wi : Fin 1024 → Fin 3072 → EReal) (e : Fin 1024) : EReal :=
  (∑ d : Fin 1024, h d * wi d ⟨1024 + e.val, by omega⟩) * ∑ d : Fin 1024, h d * wi d ⟨2048 + e.val, by omega⟩

/-- The three neighbours mixed, gated by the row's first projection and projected back, column `j`. -/
def mix (h : Fin 1024 → EReal) (wi : Fin 1024 → Fin 3072 → EReal) (cw : Fin 3 → Fin 1024 → EReal) (wo : Fin 1024 → Fin 1024 → EReal)
    (ya yb yc : Fin 1024 → EReal) (j : Fin 1024) : EReal :=
  ∑ e : Fin 1024, ((∑ d : Fin 1024, h d * wi d ⟨e.val, by omega⟩) * (cw 0 e * ya e + cw 1 e * yb e + cw 2 e * yc e)) * wo e j

/-- The mixer's result on one token. -/
def out (x gt : EReal) (h : Fin 1024 → EReal) (wi : Fin 1024 → Fin 3072 → EReal) (cw : Fin 3 → Fin 1024 → EReal) (wo : Fin 1024 → Fin 1024 → EReal)
    (ya yb yc g : Fin 1024 → EReal) (j : Fin 1024) : EReal :=
  x + gt * FfnRows.normed (mix h wi cw wo ya yb yc) g j

theorem out_congr {x x' gt gt' : EReal} {h h' : Fin 1024 → EReal} {wi wi' : Fin 1024 → Fin 3072 → EReal} {cw cw' : Fin 3 → Fin 1024 → EReal}
    {wo wo' : Fin 1024 → Fin 1024 → EReal} {ya ya' yb yb' yc yc' g g' : Fin 1024 → EReal} {j j' : Fin 1024}
    (h0 : x = x') (h1 : gt = gt') (h2 : ∀ d, h d = h' d) (h3 : ∀ d e, wi d e = wi' d e) (h4 : ∀ a e, cw a e = cw' a e) (h5 : ∀ e j, wo e j = wo' e j)
    (h6 : ∀ e, ya e = ya' e) (h7 : ∀ e, yb e = yb' e) (h8 : ∀ e, yc e = yc' e) (h9 : ∀ j, g j = g' j) (h10 : j = j') :
    out x gt h wi cw wo ya yb yc g j = out x' gt' h' wi' cw' wo' ya' yb' yc' g' j' := by
  obtain rfl := funext h2; obtain rfl := funext fun d => funext (h3 d); obtain rfl := funext fun d => funext (h4 d)
  obtain rfl := funext fun d => funext (h5 d); obtain rfl := funext h6; obtain rfl := funext h7; obtain rfl := funext h8; obtain rfl := funext h9
  rw [h0, h1, h10]

abbrev Stream : Shape := ⟨3, ![2, 16384, 1024]⟩
abbrev Table : Shape := ⟨4, ![2, 6, 8, 1024]⟩
abbrev Vectors : Shape := ⟨2, ![2, 1024]⟩
abbrev WIn : Shape := ⟨3, ![1, 1024, 3072]⟩
abbrev Taps : Shape := ⟨3, ![1, 3, 1024]⟩
abbrev WOut : Shape := ⟨3, ![1, 1024, 1024]⟩

variable (x : FVec Ideal Stream .f32) (md : FVec Ideal Table .f32) (g1 g2 : FVec Ideal Vectors .f32) (wi : FVec Ideal WIn .f32)
  (cw : FVec Ideal Taps .f32) (wo : FVec Ideal WOut .f32) (b : Fin 2) (s : Fin 16384) (j : Fin 1024)

/-- The modulated row of token `s`. -/
def row : Fin 1024 → EReal :=
  FfnRows.modded (fun k => x (ix3 b s k)) (fun k => g1 (ix2 1 k)) (fun k => md (ix4 1 0 ⟨b.val, by omega⟩ k)) (fun k => md (ix4 1 1 ⟨b.val, by omega⟩ k))

/-- What the convolution mixes at the token before the `n`-th, zero outside the sequence. -/
def padded (n : ℕ) (e : Fin 1024) : EReal :=
  if h : 1 ≤ n ∧ n ≤ 16384 then gated (row x md g1 b ⟨n - 1, by omega⟩) (fun d e => wi (ix3 0 d e)) e else 0

/-- The mixer's formula over the arrays, at batch `b`, token `s`, column `j`. -/
def G : EReal :=
  out (x (ix3 b s j)) (md (ix4 1 2 ⟨b.val, by omega⟩ j)) (row x md g1 b s) (fun d e => wi (ix3 0 d e)) (fun a e => cw (ix3 0 a e))
    (fun e j => wo (ix3 0 e j)) (padded x md g1 wi b s.val) (padded x md g1 wi b (s.val + 1)) (padded x md g1 wi b (s.val + 2)) (fun j => g2 (ix2 1 j)) j

end Cert.ConvRows

end
-- ==== Proof.ConvBlock.lean ====
module

public import proofs.«01_k».proof.Proof.Gen.ConvIdeal.Value
public import proofs.«01_k».proof.Proof.ConvRows
public import Idealize.ShloMosaic.Lib.Pipeline.ValueKit
public import Idealize.ShloMosaic.Lib.Pipeline.ReadBack

@[expose] public section

/-! What the convolution mixer's kernel computes on one tile: 512 tokens with eight rows before and after. -/

set_option maxRecDepth 16384

noncomputable section

open Idealize.ShloMosaic Idealize.ShloMosaic.TcCoe Idealize.SL.Sem
open Idealize.ShloMosaic.Pipeline (Dat)
open Cert.ConvIdeal Cert.ConvIdeal.Gen Cert.ConvRows

namespace Cert.ConvBlock

/-- Row `r` of a tile with its two halos. -/
def ext (x : FVec Ideal S1x512x1024 .f32) (p n : FVec Ideal S1x8x1024 .f32) (r : Fin 528) (j : Fin 1024) : EReal :=
  if h : r.val < 8 then p (ix3 0 ⟨r.val, h⟩ j) else if h' : r.val - 8 < 512 then x (ix3 0 ⟨r.val - 8, h'⟩ j) else n (ix3 0 ⟨r.val - 8 - 512, by omega⟩ j)

/-- The kernel's test of whether a row of the tile lies in the sequence, as a word. -/
def held (i : BitVec 32) (r : ℕ) : BitVec 1 :=
  IntOp.andi (IntOp.cmpi .sge (BitVec.ofNat 32 r) (Scalar.select (Scalar.cmpi .sgt i 0#32) 0#32 8#32))
    (IntOp.cmpi .slt (BitVec.ofNat 32 r) (Scalar.select (Scalar.cmpi .slt i 31#32) 528#32 520#32))

theorem held_eq : ∀ (i : Fin 32) (r : Fin 528), held (BitVec.ofNat 32 i.val) r.val
    = if (0 < i.val ∨ 8 ≤ r.val) ∧ (i.val < 31 ∨ r.val < 520) then 1#1 else 0#1 := by
  decide +kernel

section Payloads
variable (x : FVec Ideal S1x512x1024 .f32) (p n : FVec Ideal S1x8x1024 .f32) (g : FVec Ideal S1x1x1024 .f32) (sh sc gt : FVec Ideal S1x1x1x1024 .f32)
  (i : BitVec 32) (h : FVec Ideal S528x1024 .bf16) (w1 w2 w3 wo : FVec Ideal S1024x1024 .bf16) (cw : FVec Ideal S8x1024 .f32)
  (v : FVec Ideal S512x1024 .f32) (a : FVec Ideal S512x1024 .bf16) (r : Fin 512) (j : Fin 1024)

theorem rows_apply (r : Fin 528) : (show EReal from k0_pay3 (F := Ideal) x p n g sh sc (ix2 r j))
    = FfnRows.modded (ext x p n r) (fun j => g (ix3 0 0 j)) (fun j => sh (ix4 0 0 0 j)) (fun j => sc (ix4 0 0 0 j)) j := by
  unfold FfnRows.modded FfnRows.normed ext
  pointwise [k0_pay3, k0_pay2]

/-- What the convolution mixes at row `r` of the tile, zero outside the sequence. -/
def kept (r : Fin 528) (e : Fin 1024) : EReal :=
  Scalar.select (held i r.val) ((∑ d : Fin 1024, h (ix2 r d) * w1 (ix2 d e)) * ∑ d : Fin 1024, h (ix2 r d) * w2 (ix2 d e)) 0

theorem conv_apply : (show EReal from k0_pay4 (F := Ideal) i h w1 w2 cw w3 (ix2 r j))
    = (∑ d : Fin 1024, h (ix2 ⟨8 + r.val, by omega⟩ d) * w3 (ix2 d j))
      * (cw (ix2 0 j) * kept i h w1 w2 ⟨7 + r.val, by omega⟩ j + cw (ix2 1 j) * kept i h w1 w2 ⟨8 + r.val, by omega⟩ j
        + cw (ix2 2 j) * kept i h w1 w2 ⟨9 + r.val, by omega⟩ j) := by
  unfold kept held
  pointwise [k0_pay4]

theorem last_apply : (show EReal from k0_pay1 (F := Ideal) v a wo gt g (ix3 0 r j))
    = v (ix2 r j) + gt (ix4 0 0 0 j) * FfnRows.normed (fun j => ∑ e : Fin 1024, a (ix2 r e) * wo (ix2 e j)) (fun j => g (ix3 0 0 j)) j := by
  unfold FfnRows.normed
  pointwise [k0_pay1]

end Payloads

end Cert.ConvBlock

end
-- ==== Proof.ConvFinal.lean ====
module

public import proofs.«01_k».proof.Proof.ConvBlock

@[expose] public section

/-! The convolution mixer's kernel: what each grid point writes, and what the result's array holds. -/

set_option maxRecDepth 16384

noncomputable section

open Idealize.ShloMosaic Idealize.ShloMosaic.TcCoe Idealize.SL.Sem
open Idealize.ShloMosaic.Pipeline (Dat)
open Cert.ConvIdeal Cert.ConvIdeal.Gen Cert.ConvRows

namespace Cert.ConvBlock

variable (m : (ℓ : Loc nD τ sig) → Buf (Elt Ideal) ℓ)

theorem idx : ∀ t : Fin cfg0.N, win0_0.index t = ![t.val / 32, 64 * (t.val % 32) - 1, 0] ∧ win0_1.index t = ![t.val / 32, t.val % 32, 0]
    ∧ win0_2.index t = ![t.val / 32, min (64 * (t.val % 32) + 64) 2047, 0]
    ∧ win0_3.index t = ![1, 0, 0, 0] ∧ win0_4.index t = ![1, 1, 0, 0] ∧ win0_5.index t = ![1, 2, 0, 0]
    ∧ win0_6.index t = ![1, 0, 0] ∧ win0_7.index t = ![1, 0, 0]
    ∧ win0_8.index t = ![0, 0] ∧ win0_9.index t = ![0, 0] ∧ win0_10.index t = ![0, 0]
    ∧ win0_11.index t = ![t.val / 32, t.val % 32, 0] :=
  (by decide +kernel : ∀ t : Fin grid0.N, _)

theorem off1 : ∀ t : Fin cfg0.N, k0_off1 (grid0.coords t) = ![0, 0, t.val / 32, 0] :=
  (by decide +kernel : ∀ t : Fin grid0.N, _)

/-- The tile's number in its sequence. -/
theorem coord1 : ∀ t : Fin cfg0.N, ((grid0.coords t) 1).val = t.val % 32 :=
  (by decide +kernel : ∀ t : Fin grid0.N, _)

/-- Row `r` of the tile with its halos, modulated. -/
def extRow (c : Dev nD) (t : Fin cfg0.N) (r : Fin 528) : Fin 1024 → EReal :=
  FfnRows.modded (ext (iblk m c 1 t) (iblk m c 0 t) (iblk m c 2 t) r) (fun j => iblk m c 6 t (ix3 0 0 j))
    (fun j => iblk m c 3 t (ix4 0 0 ⟨t.val / 32, by have := t.isLt; change t.val < 64 at this; omega⟩ j))
    (fun j => iblk m c 4 t (ix4 0 0 ⟨t.val / 32, by have := t.isLt; change t.val < 64 at this; omega⟩ j))

/-- What the convolution mixes at row `r`. -/
def extKept (c : Dev nD) (t : Fin cfg0.N) (r : Fin 528) (e : Fin 1024) : EReal :=
  Scalar.select (held (BitVec.ofNat 32 (t.val % 32)) r.val) (gated (extRow m c t r) (fun d e => iblk m c 8 t (ix2 d e)) e) 0

set_option maxHeartbeats 2000000 in
theorem point (c : Dev nD) (t : Fin cfg0.N) (r : Fin 512) (k : Fin 1024) :
    (show EReal from outsAt0 m c t (ix3 0 r k))
      = out (iblk m c 1 t (ix3 0 r k)) (iblk m c 5 t (ix4 0 0 ⟨t.val / 32, by have := t.isLt; change t.val < 64 at this; omega⟩ k))
          (extRow m c t ⟨8 + r.val, by omega⟩) (fun d e => iblk m c 8 t (ix2 d e)) (fun a e => iblk m c 9 t (ix2 ⟨a.val, by omega⟩ e))
          (fun e j => iblk m c 10 t (ix2 e j)) (extKept m c t ⟨7 + r.val, by omega⟩) (extKept m c t ⟨8 + r.val, by omega⟩) (extKept m c t ⟨9 + r.val, by omega⟩)
          (fun j => iblk m c 7 t (ix3 0 0 j)) k := by
  unfold outsAt0 out0_A_11
  frame_open
  simp (disch := decide) only [↓ View.readCov_skip, ↓ View.readCov_cons_toLoadRect, ↓ View.readCov_fill]
  frame_out
  refine (last_apply _ _ _ _ _ _ _).trans ?_
  simp only [conv_apply, kept, rows_apply]
  unfold out mix extKept extRow gated
  pointwise [off1 t, coord1 t, k0_pay2]

/-- The rows of the sequence that the tile and its two halos hold. -/
theorem rows (c : Dev nD) (t : Fin cfg0.N) (y : Fin 8) (z : Fin 512) (j : Fin 1024) :
    let b : Fin 2 := ⟨t.val / 32, by have : t.val < 64 := t.isLt; omega⟩
    (show EReal from iblk m c 0 t (ix3 0 y j)) = m ((c : Thread nD τ).loc main_arg0) (ix3 b ⟨8 * (64 * (t.val % 32) - 1) + y.val, by omega⟩ j)
    ∧ (show EReal from iblk m c 1 t (ix3 0 z j)) = m ((c : Thread nD τ).loc main_arg0) (ix3 b ⟨512 * (t.val % 32) + z.val, by omega⟩ j)
    ∧ (show EReal from iblk m c 2 t (ix3 0 y j)) = m ((c : Thread nD τ).loc main_arg0) (ix3 b ⟨8 * min (64 * (t.val % 32) + 64) 2047 + y.val, by omega⟩ j) := by
  refine ⟨?_, ?_, ?_⟩
  all_goals first | (blk_ext [iblk, V, idx t]; done) | (blk_point [iblk, V, idx t]; done) | skip

/-- Row `r` of the tile with its halos is token `512 t + r - 8`, where that is in the sequence. -/
theorem ext_eq (c : Dev nD) (t : Fin cfg0.N) (r : Fin 528) (s : Fin 16384) (h : s.val + 8 = 512 * (t.val % 32) + r.val) (j : Fin 1024) :
    ext (iblk m c 1 t) (iblk m c 0 t) (iblk m c 2 t) r j
      = m ((c : Thread nD τ).loc main_arg0) (ix3 ⟨t.val / 32, by have : t.val < 64 := t.isLt; omega⟩ s j) := by
  have hs := s.isLt
  have hr := r.isLt
  unfold ext
  split_ifs with h1 h2
  · exact (rows m c t ⟨r.val, h1⟩ 0 j).1.trans (congrArg (fun s => m ((c : Thread nD τ).loc main_arg0) (ix3 _ s j)) (Fin.ext (by dsimp only; omega)))
  · exact (rows m c t 0 ⟨r.val - 8, h2⟩ j).2.1.trans (congrArg (fun s => m ((c : Thread nD τ).loc main_arg0) (ix3 _ s j)) (Fin.ext (by dsimp only; omega)))
  · exact (rows m c t ⟨r.val - 8 - 512, by omega⟩ 0 j).2.2.trans
      (congrArg (fun s => m ((c : Thread nD τ).loc main_arg0) (ix3 _ s j)) (Fin.ext (by dsimp only; omega)))

theorem extRow_eq (c : Dev nD) (t : Fin cfg0.N) (r : Fin 528) (s : Fin 16384) (h : s.val + 8 = 512 * (t.val % 32) + r.val) :
    extRow m c t r = row (m ((c : Thread nD τ).loc main_arg0)) (m ((c : Thread nD τ).loc main_arg1)) (m ((c : Thread nD τ).loc main_arg2))
      ⟨t.val / 32, by have : t.val < 64 := t.isLt; omega⟩ s := by
  have h0 := funext (ext_eq m c t r s h)
  unfold extRow row
  rw [h0]
  congr 1
  all_goals funext j
  all_goals first | (blk_ext [iblk, V, idx t]; done) | (blk_point [iblk, V, idx t]; done) | skip

theorem extKept_eq (c : Dev nD) (t : Fin cfg0.N) (r : Fin 528) (n : ℕ) (h : n + 7 = 512 * (t.val % 32) + r.val) (e : Fin 1024) :
    extKept m c t r e = padded (m ((c : Thread nD τ).loc main_arg0)) (m ((c : Thread nD τ).loc main_arg1)) (m ((c : Thread nD τ).loc main_arg2))
      (m ((c : Thread nD τ).loc main_arg4)) ⟨t.val / 32, by have : t.val < 64 := t.isLt; omega⟩ n e := by
  have ht : t.val < 64 := t.isLt
  have hr := r.isLt
  unfold extKept padded
  rw [held_eq ⟨t.val % 32, by omega⟩ r]
  by_cases hn : 1 ≤ n ∧ n ≤ 16384
  · rw [dif_pos hn, if_pos (by dsimp only; omega), ← extRow_eq m c t r ⟨n - 1, by omega⟩ (by dsimp only; omega)]
    refine Eq.trans (b := gated (extRow m c t r) (fun d e => iblk m c 8 t (ix2 d e)) e) rfl ?_
    congr 1
    funext d e
    first | (blk_ext [iblk, V, idx t]; done) | (blk_point [iblk, V, idx t]; done) | skip
  · rw [dif_neg hn, if_neg (by dsimp only; omega)]
    rfl

theorem tap_apply (v : FVec Ideal S1x3x1024 .f32) (a : Fin 3) (e : Fin 1024) :
    (show EReal from shapeCast S3x1024 v shapeCasts_S1x3x1024_S3x1024 (ix2 a e)) = v (ix3 0 a e) := by
  first | (pointwise []; done) | blk_ext []

/-- The first three of the rows of taps are the layer's taps. -/
theorem taps (c : Dev nD) (t : Fin cfg0.N) (a : Fin 3) (e : Fin 1024) :
    (show EReal from iblk m c 9 t (ix2 ⟨a.val, by omega⟩ e)) = m ((c : Thread nD τ).loc main_arg5) (ix3 0 a e) := by
  have h : (StableHlo.after hostOps0 (fun b => m (c, b)) (Proc.tc.devRef main_v4) : S8x1024.Idx → EReal)
      = concatenate S8x1024 0 [⟨S3x1024, shapeCast S3x1024 (m ((c : Thread nD τ).loc main_arg5)) shapeCasts_S1x3x1024_S3x1024⟩,
          ⟨S5x1024, broadcastInDim S5x1024 ![] bcast_S_S5x1024 (constant (F := Ideal) S_ .f32 0x00000000#32)⟩]
        concatenates_S3x1024_S5x1024_S8x1024_d0 := by
    rfl
  refine Eq.trans (b := (StableHlo.after hostOps0 (fun b => m (c, b)) (Proc.tc.devRef main_v4) : S8x1024.Idx → EReal) (ix2 ⟨a.val, by omega⟩ e)) ?_ ?_
  · have e9 : (win0_9.blk t).view.emb (ix2 ⟨a.val, by omega⟩ e) = ix2 ⟨a.val, by omega⟩ e := by blk_ext [idx t]
    exact congrArg (StableHlo.after hostOps0 (fun b => m (c, b)) (Proc.tc.devRef main_v4) : S8x1024.Idx → EReal) e9
  · rw [h]
    refine (concatenate_pair_apply_left (s₁ := S3x1024) (t := S8x1024) 0 _ _ _ (ix2 ⟨a.val, by omega⟩ e) rfl (ix2 a e) (fun b => by fin_cases b <;> rfl)).trans ?_
    exact tap_apply _ a e

/-- The formula at the kernel's memory, as an array. -/
def result (c : Dev nD) : FVec Ideal S2x16384x1024 .f32 := fun i =>
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (i 0) (i 1) (i 2)

set_option maxHeartbeats 2000000 in
theorem final (c : Dev nD) : (dats m 0 c).arrAt 11 cfg0.N = result m c := by
  refine (dats m 0 c).arrAt_eq_of_covers 11 _ (by decide +kernel) fun t _ y => ?_
  blk_simp
  rw [after0_11]
  idx_vars y
  obtain rfl : y0 = 0 := Subsingleton.elim _ _
  refine (point m c t y1 y2).trans ?_
  have ht : t.val < 64 := t.isLt
  have hs : ∀ s : Fin 16384, s.val = 512 * (t.val % 32) + y1.val → out (iblk m c 1 t (ix3 0 y1 y2)) (iblk m c 5 t (ix4 0 0 ⟨t.val / 32, by omega⟩ y2))
          (extRow m c t ⟨8 + y1.val, by omega⟩) (fun d e => iblk m c 8 t (ix2 d e)) (fun a e => iblk m c 9 t (ix2 ⟨a.val, by omega⟩ e))
          (fun e j => iblk m c 10 t (ix2 e j)) (extKept m c t ⟨7 + y1.val, by omega⟩) (extKept m c t ⟨8 + y1.val, by omega⟩) (extKept m c t ⟨9 + y1.val, by omega⟩)
          (fun j => iblk m c 7 t (ix3 0 0 j)) y2
      = G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) ⟨t.val / 32, by omega⟩ s y2 := by
    intro s hs
    unfold G
    refine out_congr ?_ ?_ (fun d => congrFun (extRow_eq m c t _ s (by dsimp only; omega)) d) (fun d e => ?_) (fun a e => ?_) (fun e j => ?_)
      (fun e => extKept_eq m c t _ _ (by dsimp only; omega) e) (fun e => extKept_eq m c t _ _ (by dsimp only; omega) e)
      (fun e => extKept_eq m c t _ _ (by dsimp only; omega) e) (fun j => ?_) rfl
    · exact (rows m c t 0 y1 y2).2.1.trans (congrArg (fun s => m ((c : Thread nD τ).loc main_arg0) (ix3 _ s y2)) (Fin.ext (by dsimp only; omega)))
    all_goals first | exact taps m c t a e | (blk_ext [iblk, V, idx t]; done) | (blk_point [iblk, V, idx t]; done)
  refine (hs ⟨512 * (t.val % 32) + y1.val, by omega⟩ rfl).trans ?_
  unfold result
  congr 1
  all_goals
    refine Fin.ext ?_
    blk_simp [idx t]
    try simp [Nat.mul_comm]

end Cert.ConvBlock

end
-- ==== Proof.ConvRefRow.lean ====
module

public import proofs.«01_k».proof.Proof.Gen.ConvRefIdeal.Run
public import proofs.«01_k».proof.Proof.ConvRows
public import Idealize.ShloMosaic.Lib.Pointwise

@[expose] public section

/-! The reference's result of the convolution mixer, read at one entry. -/

set_option maxRecDepth 16384

noncomputable section

open Idealize.ShloMosaic Idealize.ShloMosaic.TcCoe Idealize.SL.Sem
open Cert.ConvRefIdeal Cert.ConvRefIdeal.Gen Cert.ConvRefIdeal.Value Cert.ConvRows

namespace Cert.ConvRefRow

variable (X A : FVec Ideal S2x16384x1024 .f32) (M : FVec Ideal S2x6x8x1024 .f32) (W : FVec Ideal S2x1024 .f32) (WI : FVec Ideal S1x1024x3072 .f32)
  (C : FVec Ideal S1x3x1024 .f32) (WO : FVec Ideal S1x1024x1024 .f32) (P : FVec Ideal S2x16384x3072 .f32) (Y : FVec Ideal S2x16386x1024 .f32)

/-- A row times its norm's scale and a weight. -/
def normOf : FVec Ideal S2x16384x1024 .f32 :=
  mulf (mulf A (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf A A) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 (shapeCast _ (extractStridedSlice S1x1024 ![1, 0] W slices_S2x1024_S1x1024_1_0) shapeCasts_S1x1024_S1024)))

/-- The modulated rows. -/
def rowsOf : FVec Ideal S2x16384x1024 .f32 :=
  addf (mulf A (broadcastInDim S2x16384x1024 ![0, 1, 2] bcast_S2x1x1024_S2x16384x1024_0_1_2 (addf (broadcastInDim S2x1x1024 ![] bcast_S_S2x1x1024 (constant S_ .f32 0x3F800000#32)) (broadcastInDim S2x1x1024 ![0, 2] bcast_S2x1024_S2x1x1024_0_2 (shapeCast _ (extractStridedSlice S1x1x2x1024 ![1, 1, 0, 0] M slices_S2x6x8x1024_S1x1x2x1024_1_1_0_0) shapeCasts_S1x1x2x1024_S2x1024))))) (broadcastInDim S2x16384x1024 ![0, 1, 2] bcast_S2x1x1024_S2x16384x1024_0_1_2 (broadcastInDim S2x1x1024 ![0, 2] bcast_S2x1024_S2x1x1024_0_2 (shapeCast _ (extractStridedSlice S1x1x2x1024 ![1, 0, 0, 0] M slices_S2x6x8x1024_S1x1x2x1024_1_0_0_0) shapeCasts_S1x1x2x1024_S2x1024)))

/-- The rows' three projections. -/
def projOf : FVec Ideal S2x16384x3072 .f32 :=
  Host.dotGeneral dot_S2x16384x1024_S1024x3072_S2x16384x3072_2_0_01_1_n_n none A (shapeCast _ WI shapeCasts_S1x1024x3072_S1024x3072)

/-- Two of the projections multiplied, with a row of zeros before and after. -/
def padOf : FVec Ideal S2x16386x1024 .f32 :=
  pad S2x16386x1024 ![0, 1, 0] ![0, 1, 0] ![0, 0, 0] (mulf (extractStridedSlice S2x16384x1024 ![0, 0, 1024] P slices_S2x16384x3072_S2x16384x1024_0_0_1024) (extractStridedSlice S2x16384x1024 ![0, 0, 2048] P slices_S2x16384x3072_S2x16384x1024_0_0_2048)) (sitofp .f32 (constantI S_ 32 0#32)) pads_S2x16384x1024_S2x16386x1024_000_110_000 h_S_

/-- The three neighbours mixed and gated by the first projection. -/
def convOf : FVec Ideal S2x16384x1024 .f32 :=
  mulf (extractStridedSlice S2x16384x1024 ![0, 0, 0] P slices_S2x16384x3072_S2x16384x1024_0_0_0) (addf (addf (mulf (broadcastInDim S2x16384x1024 ![0, 1, 2] bcast_S1x1x1024_S2x16384x1024_0_1_2 (broadcastInDim S1x1x1024 ![2] bcast_S1024_S1x1x1024_2 (shapeCast _ (extractStridedSlice S1x1024 ![0, 0] (shapeCast _ C shapeCasts_S1x3x1024_S3x1024) slices_S3x1024_S1x1024_0_0) shapeCasts_S1x1024_S1024))) (extractStridedSlice S2x16384x1024 ![0, 0, 0] Y slices_S2x16386x1024_S2x16384x1024_0_0_0)) (mulf (broadcastInDim S2x16384x1024 ![0, 1, 2] bcast_S1x1x1024_S2x16384x1024_0_1_2 (broadcastInDim S1x1x1024 ![2] bcast_S1024_S1x1x1024_2 (shapeCast _ (extractStridedSlice S1x1024 ![1, 0] (shapeCast _ C shapeCasts_S1x3x1024_S3x1024) slices_S3x1024_S1x1024_1_0) shapeCasts_S1x1024_S1024))) (extractStridedSlice S2x16384x1024 ![0, 1, 0] Y slices_S2x16386x1024_S2x16384x1024_0_1_0))) (mulf (broadcastInDim S2x16384x1024 ![0, 1, 2] bcast_S1x1x1024_S2x16384x1024_0_1_2 (broadcastInDim S1x1x1024 ![2] bcast_S1024_S1x1x1024_2 (shapeCast _ (extractStridedSlice S1x1024 ![2, 0] (shapeCast _ C shapeCasts_S1x3x1024_S3x1024) slices_S3x1024_S1x1024_2_0) shapeCasts_S1x1024_S1024))) (extractStridedSlice S2x16384x1024 ![0, 2, 0] Y slices_S2x16386x1024_S2x16384x1024_0_2_0)))

/-- The projection back. -/
def backOf : FVec Ideal S2x16384x1024 .f32 :=
  Host.dotGeneral dot_S2x16384x1024_S1024x1024_S2x16384x1024_2_0_01_1_n_n none A (shapeCast _ WO shapeCasts_S1x1024x1024_S1024x1024)

/-- The gated sum. -/
def outOf : FVec Ideal S2x16384x1024 .f32 :=
  addf X (mulf (broadcastInDim S2x16384x1024 ![0, 1, 2] bcast_S2x1x1024_S2x16384x1024_0_1_2 (broadcastInDim S2x1x1024 ![0, 2] bcast_S2x1024_S2x1x1024_0_2 (shapeCast _ (extractStridedSlice S1x1x2x1024 ![1, 2, 0, 0] M slices_S2x6x8x1024_S1x1x2x1024_1_2_0_0) shapeCasts_S1x1x2x1024_S2x1024))) A)

variable (b : Fin 2) (s : Fin 16384) (j : Fin 1024)

theorem normOf_apply : (show EReal from normOf A W (ix3 b s j)) = FfnRows.normed (fun j => A (ix3 b s j)) (fun j => W (ix2 1 j)) j := by
  unfold FfnRows.normed
  pointwise [normOf]

theorem rowsOf_apply : (show EReal from rowsOf A M (ix3 b s j))
    = A (ix3 b s j) * (1 + M (ix4 1 1 ⟨b.val, by omega⟩ j)) + M (ix4 1 0 ⟨b.val, by omega⟩ j) := by
  pointwise [rowsOf]

theorem projOf_apply (e : Fin 3072) : (show EReal from projOf A WI (ix3 b s e)) = ∑ d : Fin 1024, A (ix3 b s d) * WI (ix3 0 d e) := by
  pointwise [projOf]

theorem backOf_apply : (show EReal from backOf A WO (ix3 b s j)) = ∑ e : Fin 1024, A (ix3 b s e) * WO (ix3 0 e j) := by
  pointwise [backOf]

theorem padOf_apply (n : Fin 16386) : (show EReal from padOf P (ix3 b n j))
    = if h : 1 ≤ n.val ∧ n.val ≤ 16384 then P (ix3 b ⟨n.val - 1, by omega⟩ ⟨1024 + j.val, by omega⟩) * P (ix3 b ⟨n.val - 1, by omega⟩ ⟨2048 + j.val, by omega⟩)
      else 0 := by
  pointwise [padOf]
  by_cases h : 1 ≤ n.val ∧ n.val ≤ 16384
  · rw [dif_pos h, dif_pos ⟨h.1, by omega⟩]
  · rw [dif_neg h, dif_neg fun h' => h ⟨h'.1, by omega⟩]
    show (((0#32).toInt : ℝ) : EReal) = 0
    norm_num

theorem convOf_apply : (show EReal from convOf C P Y (ix3 b s j))
    = P (ix3 b s ⟨j.val, by omega⟩) * (C (ix3 0 0 j) * Y (ix3 b ⟨s.val, by omega⟩ j) + C (ix3 0 1 j) * Y (ix3 b ⟨1 + s.val, by omega⟩ j)
        + C (ix3 0 2 j) * Y (ix3 b ⟨2 + s.val, by omega⟩ j)) := by
  pointwise [convOf]

theorem outOf_apply : (show EReal from outOf X A M (ix3 b s j)) = X (ix3 b s j) + M (ix4 1 2 ⟨b.val, by omega⟩ j) * A (ix3 b s j) := by
  pointwise [outOf]

theorem res_eq (m : (ℓ : Loc nD τ sig) → Buf (Elt Ideal) ℓ) (c : Dev nD) :
    res_main_v78 (F := Ideal) m c = outOf (m ((c.tc : Thread nD τ).loc main_arg0)) (normOf (backOf
        (convOf (m ((c.tc : Thread nD τ).loc main_arg5))
          (projOf (rowsOf (normOf (m ((c.tc : Thread nD τ).loc main_arg0)) (m ((c.tc : Thread nD τ).loc main_arg2))) (m ((c.tc : Thread nD τ).loc main_arg1))) (m ((c.tc : Thread nD τ).loc main_arg4)))
          (padOf (projOf (rowsOf (normOf (m ((c.tc : Thread nD τ).loc main_arg0)) (m ((c.tc : Thread nD τ).loc main_arg2))) (m ((c.tc : Thread nD τ).loc main_arg1))) (m ((c.tc : Thread nD τ).loc main_arg4)))))
        (m ((c.tc : Thread nD τ).loc main_arg6))) (m ((c.tc : Thread nD τ).loc main_arg3))) (m ((c.tc : Thread nD τ).loc main_arg1)) := by
  rfl

/-- The modulated rows of the reference. -/
abbrev modRows : FVec Ideal S2x16384x1024 .f32 := rowsOf (normOf X W) M

theorem modRows_apply : (show EReal from modRows X M W (ix3 b s j)) = row X M W b s j :=
  (rowsOf_apply (normOf X W) M b s j).trans (congrArg (· * (1 + M (ix4 1 1 ⟨b.val, by omega⟩ j)) + M (ix4 1 0 ⟨b.val, by omega⟩ j)) (normOf_apply X W b s j))

theorem proj_apply (e : Fin 3072) : (show EReal from projOf (modRows X M W) WI (ix3 b s e)) = ∑ d : Fin 1024, row X M W b s d * WI (ix3 0 d e) :=
  (projOf_apply (modRows X M W) WI b s e).trans (Finset.sum_congr rfl fun d _ => congrArg (· * WI (ix3 0 d e)) (modRows_apply X M W b s d))

theorem pad_apply (n : Fin 16386) : (show EReal from padOf (projOf (modRows X M W) WI) (ix3 b n j)) = padded X M W WI b n.val j := by
  refine (padOf_apply _ b j n).trans ?_
  unfold padded gated
  by_cases h : 1 ≤ n.val ∧ n.val ≤ 16384
  · rw [dif_pos h, dif_pos h]
    exact congrArg₂ (· * ·) (proj_apply X M W WI b _ _) (proj_apply X M W WI b _ _)
  · rw [dif_neg h, dif_neg h]

variable (V : FVec Ideal S2x1024 .f32)

theorem out_apply : (show EReal from outOf X (normOf (backOf (convOf C (projOf (modRows X M W) WI) (padOf (projOf (modRows X M W) WI))) WO) V) M (ix3 b s j))
    = G X M W V WI C WO b s j := by
  refine (outOf_apply X _ M b s j).trans (congrArg (fun z => X (ix3 b s j) + M (ix4 1 2 ⟨b.val, by omega⟩ j) * z) ((normOf_apply _ V b s j).trans ?_))
  refine congrArg (fun F => FfnRows.normed F (fun j => V (ix2 1 j)) j) (funext fun j => (backOf_apply _ WO b s j).trans ?_)
  refine Finset.sum_congr rfl fun e _ => congrArg (· * WO (ix3 0 e j)) ((convOf_apply C _ _ b s e).trans ?_)
  refine congrArg₂ (· * ·) (proj_apply X M W WI b s _) (congrArg₂ (· + ·) (congrArg₂ (· + ·) ?_ ?_) ?_)
  · exact congrArg (C (ix3 0 0 e) * ·) (pad_apply X M W WI b e _)
  · exact congrArg (C (ix3 0 1 e) * ·) ((pad_apply X M W WI b e _).trans (congrArg (fun n => padded X M W WI b n e) (Nat.add_comm 1 s.val)))
  · exact congrArg (C (ix3 0 2 e) * ·) ((pad_apply X M W WI b e _).trans (congrArg (fun n => padded X M W WI b n e) (Nat.add_comm 2 s.val)))

theorem res_apply (m : (ℓ : Loc nD τ sig) → Buf (Elt Ideal) ℓ) (c : Dev nD) : (show EReal from res_main_v78 (F := Ideal) m c (ix3 b s j))
    = G (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) b s j :=
  (congrFun (res_eq m c) (ix3 b s j)).trans (out_apply _ _ _ _ _ _ b s j _)

end Cert.ConvRefRow

end
-- ==== Proof.ConvClaim.lean ====
module

public import proofs.«01_k».proof.Defs
public import proofs.«01_k».proof.Proof.Gen.Conv.Frame
public import proofs.«01_k».proof.Proof.ConvFinal
public import proofs.«01_k».proof.Proof.ConvRefRow
public import Idealize.ShloMosaic.Lib.Claim
public import Idealize.ShloMosaic.Lib.Quiescent

@[expose] public section

/-! The claims about the convolution mixer. -/

set_option maxRecDepth 16384

noncomputable section

open Idealize.ShloMosaic Idealize.ShloMosaic.TcCoe Idealize.SL.Sem

namespace Cert.ConvClaim

theorem reference_runs : Cert.quiescent_ConvRefIdeal (hConvRefIdeal := Cert.ConvRefIdeal.Gen.facts) := by
  intro m g _
  hlo_run
  · intro _; simp only [and_self]
  · exact sem_eq_zero_of_no_sems (sig := Cert.ConvRefIdeal.sig) (by decide) _

theorem equal : Cert.algebraic_ConvIdeal_ConvRefIdeal (hConvIdeal := Cert.ConvIdeal.Gen.facts) (hConvRefIdeal := Cert.ConvRefIdeal.Gen.facts) := by
  intro m g m' g' _ hag
  refine ⟨fun c => ConvBlock.result m c, ?_, ?_⟩
  · exact (θ_run _ _ _).mono (fun r h c => ⟨(h c).1.trans (ConvBlock.final m c), (h c).2⟩) (Cert.ConvIdeal.Value.run_blocks m g)
  · refine (θ_run _ _ _).mono (fun r h c => ⟨(h c).1.trans ?_, (h c).2⟩) (Cert.ConvRefIdeal.Value.run m' g')
    funext i
    idx_vars i
    refine (ConvRefRow.res_apply i0 i1 i2 m' c).trans ?_
    obtain ⟨a0, a1, a2, a3, a4, a5, a6⟩ := hag c
    rw [a0, a1, a2, a3, a4, a5, a6]
    rfl

end Cert.ConvClaim

end
-- ==== Proof.CtxRows.lean ====
module

public import proofs.«01_k».proof.Proof.FfnRows

@[expose] public section

/-! The keys and values of the context, as a plain function of a row of the context. -/

set_option maxRecDepth 16384

noncomputable section

open Idealize.ShloMosaic Idealize.ShloMosaic.TcCoe Idealize.SL.Sem

namespace Cert.CtxRows

abbrev Context : Shape := ⟨3, ![2, 256, 1024]⟩
abbrev Table : Shape := ⟨4, ![2, 6, 8, 1024]⟩
abbrev Vectors : Shape := ⟨2, ![2, 1024]⟩
abbrev WIn : Shape := ⟨3, ![1, 1024, 1792]⟩

/-- Column `e` of the modulated context row's projection to keys and values. -/
def G (x : FVec Ideal Context .f32) (md : FVec Ideal Table .f32) (g : FVec Ideal Vectors .f32) (w : FVec Ideal WIn .f32)
    (b : Fin 2) (l : Fin 256) (e : Fin 256) : EReal :=
  ∑ d : Fin 1024, FfnRows.modded (fun k => x (ix3 b l k)) (fun k => g (ix2 0 k)) (fun k => md (ix4 0 0 2 k)) (fun k => md (ix4 0 1 2 k)) d
    * w (ix3 0 d ⟨512 + e.val, by omega⟩)

end Cert.CtxRows

end
-- ==== Proof.CtxBlock.lean ====
module

public import proofs.«01_k».proof.Proof.Gen.CtxIdeal.Value
public import proofs.«01_k».proof.Proof.CtxRows
public import Idealize.ShloMosaic.Lib.Pipeline.ValueKit
public import Idealize.ShloMosaic.Lib.Pipeline.ReadBack

@[expose] public section

/-! The kernel's keys and values of the context: what each grid point writes, and what the two results hold. -/

set_option maxRecDepth 16384

noncomputable section

open Idealize.ShloMosaic Idealize.ShloMosaic.TcCoe Idealize.SL.Sem
open Idealize.ShloMosaic.Pipeline (Dat)
open Cert.CtxIdeal Cert.CtxIdeal.Gen Cert.CtxRows

namespace Cert.CtxBlock

theorem kv_apply (sh sc : FVec Ideal S1x1x1x1024 .f32) (x : FVec Ideal S1x256x1024 .f32) (g : FVec Ideal S1x1x1024 .f32) (w : FVec Ideal S1024x256 .bf16)
    (l e : Fin 256) : (show EReal from k0_pay3 (F := Ideal) sh sc x g w (ix2 l e))
      = ∑ d : Fin 1024, FfnRows.modded (fun k => x (ix3 0 l k)) (fun k => g (ix3 0 0 k)) (fun k => sh (ix4 0 0 0 k)) (fun k => sc (ix4 0 0 0 k)) d
          * w (ix2 d e) := by
  unfold FfnRows.modded FfnRows.normed
  pointwise [k0_pay3]

section Layouts
variable (sh sc : FVec Ideal S1x1x1x1024 .f32) (x : FVec Ideal S1x256x1024 .f32) (g : FVec Ideal S1x1x1024 .f32) (w : FVec Ideal S1024x256 .bf16)

theorem lay5 (l : Fin 256) (e : Fin 128) : (show EReal from Value.E5 (F := Ideal) sh sc x g w (ix3 0 l e)) = k0_pay3 (F := Ideal) sh sc x g w (ix2 l ⟨e.val, by omega⟩) := by
  have h : Value.ix5_0 (ix3 0 l e) = ix2 l ⟨e.val, by omega⟩ := by
    funext a
    fin_cases a
    · rfl
    · exact Fin.ext (by simp [Value.ix5_0])
  exact congrArg (k0_pay3 (F := Ideal) sh sc x g w) h

theorem lay6 (l : Fin 256) (e : Fin 128) : (show EReal from Value.E6 (F := Ideal) sh sc x g w (ix3 0 l e)) = k0_pay3 (F := Ideal) sh sc x g w (ix2 l ⟨128 + e.val, by omega⟩) := by
  have h : Value.ix6_0 (ix3 0 l e) = ix2 l ⟨128 + e.val, by omega⟩ := by
    funext a
    fin_cases a
    · rfl
    · exact Fin.ext (Nat.add_comm _ _)
  exact congrArg (k0_pay3 (F := Ideal) sh sc x g w) h

end Layouts

variable (m : (ℓ : Loc nD τ sig) → Buf (Elt Ideal) ℓ)

theorem idx : ∀ t : Fin cfg0.N, win0_0.index t = ![t.val, 0, 0] ∧ win0_1.index t = ![0, 0, 0, 0] ∧ win0_2.index t = ![0, 1, 0, 0]
    ∧ win0_3.index t = ![0, 0, 0] ∧ win0_4.index t = ![0, 0] ∧ win0_5.index t = ![t.val, 0, 0] ∧ win0_6.index t = ![t.val, 0, 0] :=
  (by decide +kernel : ∀ t : Fin grid0.N, _)

/-- The projection at a grid point. -/
def kv (c : Dev nD) (t : Fin cfg0.N) (l e : Fin 256) : EReal :=
  ∑ d : Fin 1024, FfnRows.modded (fun k => iblk m c 0 t (ix3 0 l k)) (fun k => iblk m c 3 t (ix3 0 0 k)) (fun k => iblk m c 1 t (ix4 0 0 2 k))
    (fun k => iblk m c 2 t (ix4 0 0 2 k)) d * iblk m c 4 t (ix2 d e)

set_option maxHeartbeats 2000000 in
theorem point5 (c : Dev nD) (t : Fin cfg0.N) (l : Fin 256) (e : Fin 128) :
    (show EReal from out0_5 (iblk m c 0 t) (iblk m c 1 t) (iblk m c 2 t) (iblk m c 3 t) (iblk m c 4 t) (ix3 0 l e)) = kv m c t l ⟨e.val, by omega⟩ := by
  unfold out0_5
  refine (Value.canon5_eq _ _ _ _ _ _).trans ((lay5 _ _ _ _ _ l e).trans ((kv_apply _ _ _ _ _ l ⟨e.val, by omega⟩).trans ?_))
  unfold kv FfnRows.modded FfnRows.normed
  pointwise []

set_option maxHeartbeats 2000000 in
theorem point6 (c : Dev nD) (t : Fin cfg0.N) (l : Fin 256) (e : Fin 128) :
    (show EReal from out0_6 (iblk m c 0 t) (iblk m c 1 t) (iblk m c 2 t) (iblk m c 3 t) (iblk m c 4 t) (ix3 0 l e)) = kv m c t l ⟨128 + e.val, by omega⟩ := by
  unfold out0_6
  refine (Value.canon6_eq _ _ _ _ _ _).trans ((lay6 _ _ _ _ _ l e).trans ((kv_apply _ _ _ _ _ l ⟨128 + e.val, by omega⟩).trans ?_))
  unfold kv FfnRows.modded FfnRows.normed
  pointwise []

theorem kv_eq (c : Dev nD) (t : Fin cfg0.N) (l e : Fin 256) :
    kv m c t l e = G (m ((c : Thread nD τ).loc main_arg0)) (m ((c : Thread nD τ).loc main_arg1)) (m ((c : Thread nD τ).loc main_arg2))
      (m ((c : Thread nD τ).loc main_arg3)) ⟨t.val, t.isLt⟩ l e := by
  unfold kv G
  refine Finset.sum_congr rfl fun d _ => congrArg₂ (· * ·) ?_ ?_
  · congr 1
    all_goals funext k
    all_goals first | (blk_ext [iblk, V, idx t]; done) | (blk_point [iblk, V, idx t]; done) | skip
  · first | (blk_ext [iblk, V, idx t]; done) | (blk_point [iblk, V, idx t]; done) | skip

/-- The keys. -/
def keys (c : Dev nD) : FVec Ideal S2x256x128 .bf16 := fun i =>
  G (m ((c : Thread nD τ).loc main_arg0)) (m ((c : Thread nD τ).loc main_arg1)) (m ((c : Thread nD τ).loc main_arg2))
    (m ((c : Thread nD τ).loc main_arg3)) (i 0) (i 1) ⟨(i 2).val, by have : (i 2).val < 128 := (i 2).isLt; omega⟩

/-- The values. -/
def values (c : Dev nD) : FVec Ideal S2x256x128 .bf16 := fun i =>
  G (m ((c : Thread nD τ).loc main_arg0)) (m ((c : Thread nD τ).loc main_arg1)) (m ((c : Thread nD τ).loc main_arg2))
    (m ((c : Thread nD τ).loc main_arg3)) (i 0) (i 1) ⟨128 + (i 2).val, by have : (i 2).val < 128 := (i 2).isLt; omega⟩

theorem final5 (c : Dev nD) : (dats m 0 c).arrAt 5 cfg0.N = keys m c := by
  refine (dats m 0 c).arrAt_eq_of_covers 5 _ (by decide +kernel) fun t _ y => ?_
  blk_simp
  rw [after0_5]
  idx_vars y
  obtain rfl : y0 = 0 := Subsingleton.elim _ _
  refine (point5 m c t y1 y2).trans ((kv_eq m c t _ _).trans ?_)
  unfold keys
  congr 1
  all_goals
    refine Fin.ext ?_
    blk_simp [idx t]
    try simp

theorem final6 (c : Dev nD) : (dats m 0 c).arrAt 6 cfg0.N = values m c := by
  refine (dats m 0 c).arrAt_eq_of_covers 6 _ (by decide +kernel) fun t _ y => ?_
  blk_simp
  rw [after0_6]
  idx_vars y
  obtain rfl : y0 = 0 := Subsingleton.elim _ _
  refine (point6 m c t y1 y2).trans ((kv_eq m c t _ _).trans ?_)
  unfold values
  congr 1
  all_goals
    refine Fin.ext ?_
    blk_simp [idx t]
    try simp

end Cert.CtxBlock

end
-- ==== Proof.CtxRefRow.lean ====
module

public import proofs.«01_k».proof.Proof.Gen.CtxRefIdeal.Run
public import proofs.«01_k».proof.Proof.CtxRows
public import Idealize.ShloMosaic.Lib.Pointwise

@[expose] public section

/-! The reference's keys and values of the context, read at one entry. -/

set_option maxRecDepth 16384

noncomputable section

open Idealize.ShloMosaic Idealize.ShloMosaic.TcCoe Idealize.SL.Sem
open Cert.CtxRefIdeal Cert.CtxRefIdeal.Gen Cert.CtxRefIdeal.Value Cert.CtxRows

namespace Cert.CtxRefRow

variable (X A : FVec Ideal S2x256x1024 .f32) (M : FVec Ideal S2x6x8x1024 .f32) (W : FVec Ideal S2x1024 .f32) (WI : FVec Ideal S1x1024x1792 .f32)
  (b : Fin 2) (l : Fin 256) (j : Fin 1024)

/-- The modulated rows. -/
def rowsOf : FVec Ideal S2x256x1024 .f32 :=
  addf (mulf (mulf (mulf X (broadcastInDim S2x256x1024 ![0, 1, 2] bcast_S2x256x1_S2x256x1024_0_1_2 (Host.rsqrt (addf (Host.divf (broadcastInDim S2x256x1 ![0, 1] bcast_S2x256_S2x256x1_0_1 (Host.reduceAdd (mulf X X) (constant S_ .f32 0x00000000#32) reducesTo_S2x256x1024_S2x256_d2 h_S_)) (broadcastInDim S2x256x1 ![] bcast_S_S2x256x1 (constant S_ .f32 0x44800000#32))) (broadcastInDim S2x256x1 ![] bcast_S_S2x256x1 (constant S_ .f32 0x358637BD#32)))))) (broadcastInDim S2x256x1024 ![0, 1, 2] bcast_S1x1x1024_S2x256x1024_0_1_2 (broadcastInDim S1x1x1024 ![2] bcast_S1024_S1x1x1024_2 (shapeCast _ (extractStridedSlice S1x1024 ![0, 0] W slices_S2x1024_S1x1024_0_0) shapeCasts_S1x1024_S1024)))) (broadcastInDim S2x256x1024 ![0, 1, 2] bcast_S1x1x1024_S2x256x1024_0_1_2 (broadcastInDim S1x1x1024 ![2] bcast_S1024_S1x1x1024_2 (addf (broadcastInDim S1024 ![] bcast_S_S1024 (constant S_ .f32 0x3F800000#32)) (shapeCast _ (extractStridedSlice S1x1x1x1024 ![0, 1, 2, 0] M slices_S2x6x8x1024_S1x1x1x1024_0_1_2_0) shapeCasts_S1x1x1x1024_S1024))))) (broadcastInDim S2x256x1024 ![0, 1, 2] bcast_S1x1x1024_S2x256x1024_0_1_2 (broadcastInDim S1x1x1024 ![2] bcast_S1024_S1x1x1024_2 (shapeCast _ (extractStridedSlice S1x1x1x1024 ![0, 0, 2, 0] M slices_S2x6x8x1024_S1x1x1x1024_0_0_2_0) shapeCasts_S1x1x1x1024_S1024)))

/-- Their projection. -/
def projOf : FVec Ideal S2x256x256 .f32 :=
  Host.dotGeneral dot_S2x256x1024_S1024x256_S2x256x256_2_0_01_1_n_n none A (extractStridedSlice S1024x256 ![0, 512] (shapeCast _ WI shapeCasts_S1x1024x1792_S1024x1792) slices_S1024x1792_S1024x256_0_512)

theorem rowsOf_apply : (show EReal from rowsOf X M W (ix3 b l j))
    = FfnRows.modded (fun k => X (ix3 b l k)) (fun k => W (ix2 0 k)) (fun k => M (ix4 0 0 2 k)) (fun k => M (ix4 0 1 2 k)) j := by
  unfold FfnRows.modded FfnRows.normed
  pointwise [rowsOf]

theorem projOf_apply (e : Fin 256) : (show EReal from projOf A WI (ix3 b l e)) = ∑ d : Fin 1024, A (ix3 b l d) * WI (ix3 0 d ⟨512 + e.val, by omega⟩) := by
  pointwise [projOf]

theorem proj_apply (e : Fin 256) : (show EReal from projOf (rowsOf X M W) WI (ix3 b l e)) = G X M W WI b l e :=
  (projOf_apply _ WI b l e).trans (Finset.sum_congr rfl fun d _ => congrArg (· * WI (ix3 0 d ⟨512 + e.val, by omega⟩)) (rowsOf_apply X M W b l d))

theorem keys_apply (P : FVec Ideal S2x256x256 .f32) (e : Fin 128) :
    (show EReal from truncf .bf16 (extractStridedSlice S2x256x128 ![0, 0, 0] P slices_S2x256x256_S2x256x128_0_0_0) bitsLt_bf16_f32 (ix3 b l e))
      = P (ix3 b l ⟨e.val, by omega⟩) := by
  pointwise []

theorem values_apply (P : FVec Ideal S2x256x256 .f32) (e : Fin 128) :
    (show EReal from truncf .bf16 (extractStridedSlice S2x256x128 ![0, 0, 128] P slices_S2x256x256_S2x256x128_0_0_128) bitsLt_bf16_f32 (ix3 b l e))
      = P (ix3 b l ⟨128 + e.val, by omega⟩) := by
  pointwise []

end Cert.CtxRefRow

end
-- ==== Proof.CtxClaim.lean ====
module

public import proofs.«01_k».proof.Defs
public import proofs.«01_k».proof.Proof.Gen.Ctx.Frame
public import proofs.«01_k».proof.Proof.CtxBlock
public import proofs.«01_k».proof.Proof.CtxRefRow
public import Idealize.ShloMosaic.Lib.Claim
public import Idealize.ShloMosaic.Lib.Quiescent

@[expose] public section

/-! The claims about the context's keys and values. -/

set_option maxRecDepth 16384

noncomputable section

open Idealize.ShloMosaic Idealize.ShloMosaic.TcCoe Idealize.SL.Sem

namespace Cert.CtxClaim

theorem reference_runs : Cert.quiescent_CtxRefIdeal (hCtxRefIdeal := Cert.CtxRefIdeal.Gen.facts) := by
  intro m g _
  hlo_run
  · intro _; simp only [and_self]
  · exact sem_eq_zero_of_no_sems (sig := Cert.CtxRefIdeal.sig) (by decide) _

theorem equal : Cert.algebraic_CtxIdeal_CtxRefIdeal (hCtxIdeal := Cert.CtxIdeal.Gen.facts) (hCtxRefIdeal := Cert.CtxRefIdeal.Gen.facts) := by
  intro m g m' g' _ hag
  refine ⟨fun c => CtxBlock.keys m c, fun c => CtxBlock.values m c, ?_, ?_⟩
  · exact (θ_run _ _ _).mono (fun r h c => ⟨(h c).1.trans (CtxBlock.final5 m c), (h c).2.1.trans (CtxBlock.final6 m c), (h c).2.2⟩)
      (Cert.CtxIdeal.Value.run_blocks m g)
  · refine (θ_run _ _ _).mono (fun r h c => ⟨(h c).1.trans ?_, (h c).2.1.trans ?_, (h c).2.2⟩) (Cert.CtxRefIdeal.Value.run m' g')
    all_goals
      funext i
      idx_vars i
      obtain ⟨a0, a1, a2, a3⟩ := hag c
      rw [a0, a1, a2, a3]
    · exact (CtxRefRow.keys_apply i0 i1 (CtxRefRow.projOf (CtxRefRow.rowsOf _ _ _) _) i2).trans (CtxRefRow.proj_apply _ _ _ _ i0 i1 _)
    · exact (CtxRefRow.values_apply i0 i1 (CtxRefRow.projOf (CtxRefRow.rowsOf _ _ _) _) i2).trans (CtxRefRow.proj_apply _ _ _ _ i0 i1 _)

end Cert.CtxClaim

end
-- ==== Proof.AttnFinite.lean ====
module

public import proofs.«01_k».proof.Defs
public import Idealize.ShloMosaic.Lib.ReduceAll
public import Idealize.ShloMosaic.PureOps.Ideal.Laws

@[expose] public section

/-! The precondition opened: the queries, the keys, the context's keys and the sinks are real numbers. -/

set_option maxRecDepth 16384

noncomputable section

open Idealize.ShloMosaic Idealize.ShloMosaic.TcCoe Idealize.SL.Sem

namespace Cert.AttnFinite

instance facts : Cert.Pre_finite_scores.Facts where
  bitsLt_bf16_f32 := by decide
  bcast_S_S2x16384x512 := by decide
  reducesTo_S2x16384x512_S_d0_1_2 := by decide
  h_S_ := by decide
  bcast_S_S2x16384x128 := by decide
  reducesTo_S2x16384x128_S_d0_1_2 := by decide
  bcast_S_S2x256x128 := by decide
  reducesTo_S2x256x128_S_d0_1_2 := by decide
  bcast_S_S1x8 := by decide
  reducesTo_S1x8_S_d0_1 := by decide

theorem high_eq : Ideal.ofBits .f32 0x7F800000#32 = ⊤ := by simp [Ideal.ofBits, Ideal.ieee]

/-- A number whose magnitude is below infinity is real. -/
theorem real_of {x : EReal} (h : FloatOps.cmpf (F := Ideal) (φ := .f32) .olt (FloatOps.absf (F := Ideal) (φ := .f32) x) (Ideal.ofBits .f32 0x7F800000#32) = 1#1) : ∃ y : ℝ, x = y := by
  rw [high_eq, Ideal.absf_def] at h
  induction x with
  | bot => simp [Ideal.cmpf_def, Ideal.cmp] at h
  | top => simp [Ideal.cmpf_def, Ideal.cmp] at h
  | coe x => exact ⟨x, rfl⟩

open Cert.Pre_finite_scores in
theorem open_pre {a0 : FVec Ideal S2x16384x1024 .f32} {a1 : FVec Ideal S2x6x8x1024 .f32} {a2 : FVec Ideal S2x1024 .f32} {a3 : FVec Ideal S1x8 .f32}
    {a4 : FVec Ideal S1x1024x1024 .f32} {a5 : FVec Ideal S2x16384x512 .bf16} {a6 a7 : FVec Ideal S2x16384x128 .bf16} {a8 a9 : FVec Ideal S2x256x128 .bf16}
    {a10 : FVec Ideal S2x16384x512 .bf16} (h : fn (F := Ideal) a0 a1 a2 a3 a4 a5 a6 a7 a8 a9 a10 (Shape.Idx.first (by decide)) = 1#1) :
    (∀ i, ∃ y : ℝ, a5 i = y) ∧ (∀ i, ∃ y : ℝ, a6 i = y) ∧ (∀ i, ∃ y : ℝ, a8 i = y) ∧ ∀ i, ∃ y : ℝ, a3 i = y := by
  unfold fn fn_part1 at h
  obtain ⟨h, h3⟩ := IntOp.andi_eq_one.1 h
  obtain ⟨h, h8⟩ := IntOp.andi_eq_one.1 h
  obtain ⟨h5, h6⟩ := IntOp.andi_eq_one.1 h
  have : Subsingleton (S_ : Shape).Idx := ⟨fun a b => funext fun d => d.elim0⟩
  exact ⟨fun i => real_of (Host.reduce_andi_all _ _ _ _ _ h5 i), fun i => real_of (Host.reduce_andi_all _ _ _ _ _ h6 i),
    fun i => real_of (Host.reduce_andi_all _ _ _ _ _ h8 i), fun i => real_of (Host.reduce_andi_all _ _ _ _ _ h3 i)⟩

end Cert.AttnFinite

end
-- ==== Proof.ModFinite.lean ====
module

public import proofs.«01_k».proof.Proof.AttnFinite

@[expose] public section

/-! The precondition opened: the conditions and the weights are real numbers. -/

set_option maxRecDepth 16384

noncomputable section

open Idealize.ShloMosaic Idealize.ShloMosaic.TcCoe Idealize.SL.Sem

namespace Cert.ModFinite

instance facts : Cert.Pre_finite_products.Facts where
  bcast_S_S2x1024 := by decide
  reducesTo_S2x1024_S_d0_1 := by decide
  h_S_ := by decide
  bcast_S_S1024 := by decide
  reducesTo_S1024_S_d0 := by decide
  bcast_S_S2x1024x6144 := by decide
  reducesTo_S2x1024x6144_S_d0_1_2 := by decide

open Cert.Pre_finite_products in
theorem open_pre {a0 : FVec Ideal S2x1024 .f32} {a1 : FVec Ideal S1024 .f32} {a2 : FVec Ideal S2x1024x6144 .f32} {a3 : FVec Ideal S2x6144 .f32}
    (h : fn (F := Ideal) a0 a1 a2 a3 (Shape.Idx.first (by decide)) = 1#1) :
    (∀ i, ∃ y : ℝ, a0 i = y) ∧ (∀ i, ∃ y : ℝ, a1 i = y) ∧ ∀ i, ∃ y : ℝ, a2 i = y := by
  unfold fn at h
  obtain ⟨h, h2⟩ := IntOp.andi_eq_one.1 h
  obtain ⟨h0, h1⟩ := IntOp.andi_eq_one.1 h
  have : Subsingleton (S_ : Shape).Idx := ⟨fun a b => funext fun d => d.elim0⟩
  exact ⟨fun i => AttnFinite.real_of (Host.reduce_andi_all _ _ _ _ _ h0 i), fun i => AttnFinite.real_of (Host.reduce_andi_all _ _ _ _ _ h1 i),
    fun i => AttnFinite.real_of (Host.reduce_andi_all _ _ _ _ _ h2 i)⟩

end Cert.ModFinite

end
-- ==== Proof.ModRows.lean ====
module

public import Idealize.ShloMosaic.Lib.Pointwise
public import Idealize.ShloMosaic.PureOps.Ideal.Laws

@[expose] public section

/-! The modulation vectors, as a plain function of the conditions. -/

set_option maxRecDepth 16384

noncomputable section

open Idealize.ShloMosaic Idealize.ShloMosaic.TcCoe Idealize.SL.Sem

namespace Cert.ModRows

abbrev Conditions : Shape := ⟨2, ![2, 1024]⟩
abbrev Shared : Shape := ⟨1, ![1024]⟩
abbrev One : Shape := ⟨2, ![1, 1024]⟩
abbrev Five : Shape := ⟨2, ![5, 1024]⟩
abbrev Eight : Shape := ⟨2, ![8, 1024]⟩
abbrev Weights : Shape := ⟨3, ![2, 1024, 6144]⟩
abbrev Biases : Shape := ⟨2, ![2, 6144]⟩

theorem concatenates : Shape.Concatenates [Conditions, One, Five] Eight 0 := by decide

/-- The conditions of the sequences, the context's condition and five rows of zeros. -/
def stacked (x : FVec Ideal Conditions .f32) (y : FVec Ideal Shared .f32) : FVec Ideal Eight .f32 :=
  concatenate Eight 0 [⟨Conditions, x⟩, ⟨One, broadcastInDim One ![1] (by decide) y⟩,
    ⟨Five, broadcastInDim Five ![] (by decide) (constant (F := Ideal) ⟨0, ![]⟩ .f32 0x00000000#32)⟩] concatenates

/-- What holds of every entry of every piece holds of every entry of the pieces put together. -/
theorem concat_all {α : Type} (P : α → Prop) (t : Shape) (a : Fin t.rank) (xs : List ((s : Shape) × (s.Idx → α)))
    (h : Shape.Concatenates (xs.map (·.1)) t a) (H : ∀ p ∈ xs, ∀ i, P (p.2 i)) (j : t.Idx) : P (concatenate t a xs h j) := by
  unfold concatenate
  exact H _ (List.getElem_mem _) _

theorem zero_real : ∃ z : ℝ, (Ideal.ofBits .f32 0x00000000#32) = z := ⟨0, by simp [Ideal.ofBits, Ideal.ieee]⟩

theorem stacked_real {x : FVec Ideal Conditions .f32} {y : FVec Ideal Shared .f32} (hx : ∀ i, ∃ z : ℝ, x i = z) (hy : ∀ i, ∃ z : ℝ, y i = z)
    (i : Eight.Idx) : ∃ z : ℝ, stacked x y i = z :=
  concat_all (α := EReal) (fun e => ∃ z : ℝ, e = z) Eight 0 _ _
    (List.forall_mem_cons.2 ⟨hx, List.forall_mem_cons.2 ⟨fun _ => hy _, List.forall_mem_cons.2 ⟨fun _ => zero_real, List.forall_mem_nil _⟩⟩⟩) i

/-- The gate of a condition. -/
def silu (x : EReal) : EReal := x * Ideal.logistic x

theorem silu_real {x : EReal} (h : ∃ z : ℝ, x = z) : ∃ z : ℝ, silu x = z := by
  obtain ⟨z, rfl⟩ := h
  exact ⟨z * (1 + Real.exp (-z))⁻¹, by unfold silu; rw [Ideal.logistic_coe, ← EReal.coe_mul]⟩

theorem sub_real {x : EReal} (h : ∃ z : ℝ, x = z) : x - x = 0 := by
  obtain ⟨z, rfl⟩ := h
  rw [← EReal.coe_sub, sub_self, EReal.coe_zero]

/-- Between real numbers the parts that the split leaves over add nothing. -/
theorem split_sum (f g : Fin 1024 → EReal) (hf : ∀ d, ∃ z : ℝ, f d = z) (hg : ∀ d, ∃ z : ℝ, g d = z) (b : EReal) :
    ∑ d, f d * g d + ∑ d, f d * (g d - g d) + ∑ d, (f d - f d) * g d + b = ∑ d, f d * g d + b := by
  have h1 : ∑ d, f d * (g d - g d) = 0 := Finset.sum_eq_zero fun d _ => by rw [sub_real (hg d), mul_zero]
  have h2 : ∑ d, (f d - f d) * g d = 0 := Finset.sum_eq_zero fun d _ => by rw [sub_real (hf d), zero_mul]
  rw [h1, h2, add_zero, add_zero]

/-- Entry `k` of vector `j` of layer `l` for condition `r`. -/
def G (s : FVec Ideal Eight .f32) (w : FVec Ideal Weights .f32) (b : FVec Ideal Biases .f32) (l : Fin 2) (j : Fin 6) (r : Fin 8) (k : Fin 1024) : EReal :=
  ∑ d : Fin 1024, silu (s (ix2 r d)) * w (ix3 l d ⟨j.val * 1024 + k.val, by omega⟩) + b (ix2 l ⟨j.val * 1024 + k.val, by omega⟩)

end Cert.ModRows

end
-- ==== Proof.ModBlock.lean ====
module

public import proofs.«01_k».proof.Proof.Gen.ModIdeal.Value
public import proofs.«01_k».proof.Proof.ModRows
public import Idealize.ShloMosaic.Lib.Pipeline.ValueKit
public import Idealize.ShloMosaic.Lib.Pipeline.ReadBack

@[expose] public section

/-! The kernel's modulation vectors: what each grid point writes, and what the result's array holds. -/

set_option maxRecDepth 16384

noncomputable section

open Idealize.ShloMosaic Idealize.ShloMosaic.TcCoe Idealize.SL.Sem
open Idealize.ShloMosaic.Pipeline (Dat)
open Cert.ModIdeal Cert.ModIdeal.Gen Cert.ModRows

namespace Cert.ModBlock

theorem pay_apply (s : FVec Ideal S8x1024 .f32) (w : FVec Ideal S1x1024x1024 .f32) (b : FVec Ideal S1x1x1x1024 .f32) (r : Fin 8) (k : Fin 1024) :
    (show EReal from k0_pay1 (F := Ideal) s w b (ix4 0 0 r k))
      = ∑ d : Fin 1024, silu (s (ix2 r d)) * w (ix3 0 d k) + ∑ d : Fin 1024, silu (s (ix2 r d)) * (w (ix3 0 d k) - w (ix3 0 d k))
        + ∑ d : Fin 1024, (silu (s (ix2 r d)) - silu (s (ix2 r d))) * w (ix3 0 d k) + b (ix4 0 0 0 k) := by
  unfold silu
  pointwise [k0_pay1]

theorem out_eq (s : FVec Ideal S8x1024 .f32) (w : FVec Ideal S1x1024x1024 .f32) (b : FVec Ideal S1x1x1x1024 .f32) :
    out0_3 (F := Ideal) s w b = k0_pay1 (F := Ideal) s w b := by
  unfold out0_3
  frame_out

variable (m : (ℓ : Loc nD τ sig) → Buf (Elt Ideal) ℓ)

theorem idx : ∀ t : Fin cfg0.N, win0_0.index t = ![0, 0] ∧ win0_1.index t = ![t.val / 6, 0, t.val % 6] ∧ win0_2.index t = ![t.val / 6, t.val % 6, 0, 0]
    ∧ win0_3.index t = ![t.val / 6, t.val % 6, 0, 0] :=
  (by decide +kernel : ∀ t : Fin grid0.N, _)

/-- The conditions that the kernel reads. -/
theorem conds (c : Dev nD) (t : Fin cfg0.N) (r : Fin 8) (d : Fin 1024) :
    (show EReal from iblk m c 0 t (ix2 r d)) = stacked (m ((c : Thread nD τ).loc main_arg0)) (m ((c : Thread nD τ).loc main_arg1)) (ix2 r d) := by
  have h : (StableHlo.after hostOps0 (fun b => m (c, b)) (Proc.tc.devRef main_v2) : S8x1024.Idx → EReal)
      = stacked (m ((c : Thread nD τ).loc main_arg0)) (m ((c : Thread nD τ).loc main_arg1)) := by
    rfl
  refine Eq.trans (b := (StableHlo.after hostOps0 (fun b => m (c, b)) (Proc.tc.devRef main_v2) : S8x1024.Idx → EReal) (ix2 r d)) ?_ (congrFun h _)
  have e : (win0_0.blk t).view.emb (ix2 r d) = ix2 r d := by blk_ext [idx t]
  exact congrArg (StableHlo.after hostOps0 (fun b => m (c, b)) (Proc.tc.devRef main_v2) : S8x1024.Idx → EReal) e

theorem weights (c : Dev nD) (t : Fin cfg0.N) (d k : Fin 1024) :
    (show EReal from iblk m c 1 t (ix3 0 d k)) = m ((c : Thread nD τ).loc main_arg2)
      (ix3 ⟨t.val / 6, by have : t.val < 12 := t.isLt; omega⟩ d ⟨t.val % 6 * 1024 + k.val, by have : t.val % 6 < 6 := Nat.mod_lt _ (by omega); omega⟩) := by
  first | (blk_ext [iblk, V, idx t]; done) | (blk_point [iblk, V, idx t]; done)

theorem biases (c : Dev nD) (t : Fin cfg0.N) (k : Fin 1024) :
    (show EReal from iblk m c 2 t (ix4 0 0 0 k)) = m ((c : Thread nD τ).loc main_arg3)
      (ix2 ⟨t.val / 6, by have : t.val < 12 := t.isLt; omega⟩ ⟨t.val % 6 * 1024 + k.val, by have : t.val % 6 < 6 := Nat.mod_lt _ (by omega); omega⟩) := by
  first | (blk_ext [iblk, V, idx t]; done) | (blk_point [iblk, V, idx t]; done)

/-- The formula at the kernel's memory, as an array. -/
def result (c : Dev nD) : FVec Ideal S2x6x8x1024 .f32 := fun i =>
  G (stacked (m ((c : Thread nD τ).loc main_arg0)) (m ((c : Thread nD τ).loc main_arg1))) (m ((c : Thread nD τ).loc main_arg2))
    (m ((c : Thread nD τ).loc main_arg3)) (i 0) (i 1) (i 2) (i 3)

theorem final (c : Dev nD) (h0 : ∀ i, ∃ z : ℝ, (show EReal from m ((c : Thread nD τ).loc main_arg0) i) = z)
    (h1 : ∀ i, ∃ z : ℝ, (show EReal from m ((c : Thread nD τ).loc main_arg1) i) = z)
    (h2 : ∀ i, ∃ z : ℝ, (show EReal from m ((c : Thread nD τ).loc main_arg2) i) = z) : (dats m 0 c).arrAt 3 cfg0.N = result m c := by
  refine (dats m 0 c).arrAt_eq_of_covers 3 _ (by decide +kernel) fun t _ y => ?_
  blk_simp
  rw [after0_3]
  idx_vars y
  obtain rfl : y0 = 0 := Subsingleton.elim _ _
  obtain rfl : y1 = 0 := Subsingleton.elim _ _
  refine (congrFun (out_eq _ _ _) _).trans ((pay_apply _ _ _ y2 y3).trans ?_)
  simp only [conds m c t, weights m c t, biases m c t]
  refine (split_sum _ _ (fun d => silu_real (stacked_real h0 h1 _)) (fun d => h2 _) _).trans ?_
  have ht : t.val < 12 := t.isLt
  have h6 : t.val % 6 < 6 := Nat.mod_lt _ (by omega)
  refine Eq.trans (b := G (stacked (m ((c : Thread nD τ).loc main_arg0)) (m ((c : Thread nD τ).loc main_arg1))) (m ((c : Thread nD τ).loc main_arg2))
    (m ((c : Thread nD τ).loc main_arg3)) ⟨t.val / 6, by omega⟩ ⟨t.val % 6, h6⟩ y2 y3) rfl ?_
  unfold result
  congr 1
  all_goals
    refine Fin.ext ?_
    blk_simp [idx t]
    try simp

end Cert.ModBlock

end
-- ==== Proof.ModRefRow.lean ====
module

public import proofs.«01_k».proof.Proof.Gen.ModRefIdeal.Run
public import proofs.«01_k».proof.Proof.ModRows
public import Idealize.ShloMosaic.Lib.Pointwise

@[expose] public section

/-! The reference's modulation vectors, read at one entry. -/

set_option maxRecDepth 16384

noncomputable section

open Idealize.ShloMosaic Idealize.ShloMosaic.TcCoe Idealize.SL.Sem
open Cert.ModRefIdeal Cert.ModRefIdeal.Gen Cert.ModRefIdeal.Value Cert.ModRows

namespace Cert.ModRefRow

variable (S : FVec Ideal S8x1024 .f32) (W : FVec Ideal S2x1024x6144 .f32) (B : FVec Ideal S2x6144 .f32)

/-- The gated conditions. -/
def gates : FVec Ideal S8x1024 .f32 :=
  mulf S (Host.divf (broadcastInDim S8x1024 ![] bcast_S_S8x1024 (constant S_ .f32 0x3F800000#32)) (addf (broadcastInDim S8x1024 ![] bcast_S_S8x1024 (constant S_ .f32 0x3F800000#32)) (Host.exp (Host.negf S))))

theorem gates_apply (r : Fin 8) (d : Fin 1024) : (show EReal from gates S (ix2 r d)) = silu (S (ix2 r d)) := by
  unfold silu Ideal.logistic
  pointwise [gates]

/-- A layer's vectors, from the gated conditions, its weights and its biases. -/
def layerOf (A : FVec Ideal S8x1024 .f32) (w : FVec Ideal S1x1024x6144 .f32) (b : FVec Ideal S1x6144 .f32) : FVec Ideal S1x6x8x1024 .f32 :=
  broadcastInDim S1x6x8x1024 ![1, 2, 3] bcast_S6x8x1024_S1x6x8x1024_1_2_3 (transpose S6x8x1024 [1, 0, 2] (shapeCast _ (addf (Host.dotGeneral dot_S8x1024_S1024x6144_S8x6144_1_0_0_1_n_n none A (shapeCast _ w shapeCasts_S1x1024x6144_S1024x6144)) (broadcastInDim S8x6144 ![0, 1] bcast_S1x6144_S8x6144_0_1 (broadcastInDim S1x6144 ![1] bcast_S6144_S1x6144_1 (shapeCast _ b shapeCasts_S1x6144_S6144)))) shapeCasts_S8x6144_S8x6x1024) transposes_S8x6x1024_S6x8x1024_1_0_2)

theorem layerOf_apply (A : FVec Ideal S8x1024 .f32) (w : FVec Ideal S1x1024x6144 .f32) (b : FVec Ideal S1x6144 .f32) (j : Fin 6) (r : Fin 8) (k : Fin 1024) :
    (show EReal from layerOf A w b (ix4 0 j r k))
      = ∑ d : Fin 1024, A (ix2 r d) * w (ix3 0 d ⟨j.val * 1024 + k.val, by omega⟩) + b (ix2 0 ⟨j.val * 1024 + k.val, by omega⟩) := by
  pointwise [layerOf]

/-- Both layers' vectors. -/
def bothOf : FVec Ideal S2x6x8x1024 .f32 :=
  concatenate S2x6x8x1024 0 [⟨S1x6x8x1024, layerOf (gates S) (extractStridedSlice S1x1024x6144 ![0, 0, 0] W slices_S2x1024x6144_S1x1024x6144_0_0_0) (extractStridedSlice S1x6144 ![0, 0] B slices_S2x6144_S1x6144_0_0)⟩,
    ⟨S1x6x8x1024, layerOf (gates S) (extractStridedSlice S1x1024x6144 ![1, 0, 0] W slices_S2x1024x6144_S1x1024x6144_1_0_0) (extractStridedSlice S1x6144 ![1, 0] B slices_S2x6144_S1x6144_1_0)⟩] concatenates_S1x6x8x1024_S1x6x8x1024_S2x6x8x1024_d0

theorem weights0 (d : Fin 1024) (e : Fin 6144) : (show EReal from extractStridedSlice S1x1024x6144 ![0, 0, 0] W slices_S2x1024x6144_S1x1024x6144_0_0_0 (ix3 0 d e)) = W (ix3 0 d e) := by
  pointwise []

theorem weights1 (d : Fin 1024) (e : Fin 6144) : (show EReal from extractStridedSlice S1x1024x6144 ![1, 0, 0] W slices_S2x1024x6144_S1x1024x6144_1_0_0 (ix3 0 d e)) = W (ix3 1 d e) := by
  pointwise []

theorem biases0 (e : Fin 6144) : (show EReal from extractStridedSlice S1x6144 ![0, 0] B slices_S2x6144_S1x6144_0_0 (ix2 0 e)) = B (ix2 0 e) := by
  pointwise []

theorem biases1 (e : Fin 6144) : (show EReal from extractStridedSlice S1x6144 ![1, 0] B slices_S2x6144_S1x6144_1_0 (ix2 0 e)) = B (ix2 1 e) := by
  pointwise []

theorem bothOf_apply (l : Fin 2) (j : Fin 6) (r : Fin 8) (k : Fin 1024) : (show EReal from bothOf S W B (ix4 l j r k)) = G S W B l j r k := by
  unfold bothOf G
  fin_cases l
  · refine (concatenate_pair_apply_left (s₁ := S1x6x8x1024) (t := S2x6x8x1024) 0 _ _ _ (ix4 0 j r k) rfl (ix4 0 j r k) (fun b => by fin_cases b <;> rfl)).trans ?_
    refine (layerOf_apply _ _ _ j r k).trans (congrArg₂ (· + ·) (Finset.sum_congr rfl fun d _ => congrArg₂ (· * ·) (gates_apply S r d) (weights0 W d _)) (biases0 B _))
  · refine (concatenate_pair_apply_right (s₁ := S1x6x8x1024) (s₂ := S1x6x8x1024) (t := S2x6x8x1024) 0 _ _ _ (ix4 1 j r k) rfl rfl (ix4 0 j r k) (fun b hb => by fin_cases b <;> first | rfl | exact absurd rfl hb) rfl).trans ?_
    refine (layerOf_apply _ _ _ j r k).trans (congrArg₂ (· + ·) (Finset.sum_congr rfl fun d _ => congrArg₂ (· * ·) (gates_apply S r d) (weights1 W d _)) (biases1 B _))

end Cert.ModRefRow

end
-- ==== Proof.ModClaim.lean ====
module

public import proofs.«01_k».proof.Defs
public import proofs.«01_k».proof.Proof.Gen.Mod.Frame
public import proofs.«01_k».proof.Proof.ModFinite
public import proofs.«01_k».proof.Proof.ModBlock
public import proofs.«01_k».proof.Proof.ModRefRow
public import Idealize.ShloMosaic.Lib.Claim
public import Idealize.ShloMosaic.Lib.Quiescent

@[expose] public section

/-! The claims about the modulation vectors. -/

set_option maxRecDepth 16384

noncomputable section

open Idealize.ShloMosaic Idealize.ShloMosaic.TcCoe Idealize.SL.Sem

namespace Cert.ModClaim

theorem reference_runs : Cert.quiescent_ModRefIdeal (hModRefIdeal := Cert.ModRefIdeal.Gen.facts) := by
  intro m g _
  hlo_run
  · intro _; simp only [and_self]
  · exact sem_eq_zero_of_no_sems (sig := Cert.ModRefIdeal.sig) (by decide) _

theorem equal : Cert.algebraic_ModIdeal_ModRefIdeal_pre_finite_products (hModIdeal := Cert.ModIdeal.Gen.facts)
    (hModRefIdeal := Cert.ModRefIdeal.Gen.facts) (hPre_finite_products := ModFinite.facts) := by
  intro m g m' g' hp hag
  refine ⟨fun c => ModBlock.result m c, ?_, ?_⟩
  · refine (θ_run _ _ _).mono (fun r h c => ⟨(h c).1.trans ?_, (h c).2⟩) (Cert.ModIdeal.Value.run_blocks m g)
    obtain ⟨h0, h1, h2⟩ := ModFinite.open_pre (congrFun (hp c) _)
    exact ModBlock.final m c h0 h1 h2
  · refine (θ_run _ _ _).mono (fun r h c => ⟨(h c).1.trans ?_, (h c).2⟩) (Cert.ModRefIdeal.Value.run m' g')
    funext i
    idx_vars i
    obtain ⟨a0, a1, a2, a3⟩ := hag c
    rw [a0, a1, a2, a3]
    exact ModRefRow.bothOf_apply (ModRows.stacked _ _) _ _ i0 i1 i2 i3

end Cert.ModClaim

end
-- ==== Proof.AttnClaim.lean ====
module

public import proofs.«01_k».proof.Defs
public import proofs.«01_k».proof.Proof.Gen.Attn.Frame
public import proofs.«01_k».proof.Proof.Gen.AttnIdeal.Frame
public import proofs.«01_k».proof.Proof.Gen.AttnRefIdeal.Run
public import Idealize.ShloMosaic.Lib.Claim
public import Idealize.ShloMosaic.Lib.Quiescent

@[expose] public section

/-! The claims about the attention: the frame of its reference, and the one named constant of its kernel. -/

set_option maxRecDepth 16384

noncomputable section

open Idealize.ShloMosaic Idealize.ShloMosaic.TcCoe Idealize.SL.Sem

namespace Cert.AttnClaim

set_option maxHeartbeats 3200000 in
theorem reference_runs : Cert.quiescent_AttnRefIdeal (hAttnRefIdeal := Cert.AttnRefIdeal.Gen.facts) := by
  intro m g _
  hlo_run
  · intro _; simp only [and_self]
  · exact sem_eq_zero_of_no_sems (sig := Cert.AttnRefIdeal.sig) (by decide) _

theorem named : Cert.preserves_Attn_AttnIdeal :=
  IdealRules.named_const.statement Cert.AttnIdeal.κ "mask" .f32 0xF149F2CA#32 ⊥ rfl

end Cert.AttnClaim

end
-- ==== Proof.AttnRows.lean ====
module

public import Idealize.ShloMosaic.Lib.Pointwise
public import Idealize.ShloMosaic.PureOps.Ideal

@[expose] public section

/-! The attention's row formulas: one query against its window, the context and the sink. -/

noncomputable section

open Idealize.ShloMosaic

namespace Cert.AttnRows

/-- The greatest of the window's scores, the context's scores and the sink. -/
def top (sw : Fin 384 → EReal) (sc : Fin 256 → EReal) (s : EReal) : EReal :=
  max (max (Finset.fold max (Ideal.ofBits .f32 0xFF800000#32) sw Finset.univ) (Finset.fold max (Ideal.ofBits .f32 0xFF800000#32) sc Finset.univ)) s

/-- The weighted sum of the values, with the division by the weights' sum after it. -/
def soft (sw : Fin 384 → EReal) (sc : Fin 256 → EReal) (s : EReal) (vw : Fin 384 → EReal) (vc : Fin 256 → EReal) : EReal :=
  Ideal.div ((∑ k, Ideal.exp (sw k - top sw sc s) * vw k) + ∑ l, Ideal.exp (sc l - top sw sc s) * vc l)
    ((∑ k, Ideal.exp (sw k - top sw sc s)) + (∑ l, Ideal.exp (sc l - top sw sc s)) + Ideal.exp (s - top sw sc s))

end Cert.AttnRows

end
-- ==== Proof.AttnHeads.lean ====
module

public import proofs.«01_k».proof.Proof.Gen.AttnIdeal.Value
public import proofs.«01_k».proof.Proof.AttnRows
public import Idealize.ShloMosaic.Lib.Pipeline.ValueKit
public import Idealize.ShloMosaic.Lib.Pipeline.ReadBack

@[expose] public section

/-! The attention kernel's 32 stored pieces, four blocks of queries by eight heads: each is the row formula `head`. -/

set_option maxRecDepth 16384

noncomputable section

open Idealize.ShloMosaic Idealize.ShloMosaic.TcCoe Idealize.SL.Sem
open Cert.AttnIdeal Cert.AttnIdeal.Gen Cert.AttnRows

namespace Cert.AttnHeads

/-- One head's result for one query of a block: `o` the block within the tile, `h` the head, `r` the query's row. -/
def head (q : FVec Ideal S1x128x512 .bf16) (kw vw : FVec Ideal S768x128 .bf16) (kc vc : FVec Ideal S256x128 .bf16)
    (bias : FVec Ideal S128x384 .f32) (s : EReal) (o : Fin 4) (h : Fin 8) (r : Fin 128) (d : Fin 64) : EReal :=
  soft (fun k => (∑ e : Fin 64, q (ix3 0 r ⟨64 * h.val + e.val, by omega⟩) * kw (ix2 ⟨128 * o.val + k.val, by omega⟩ ⟨64 * (h.val / 4) + e.val, by omega⟩)) + bias (ix2 r k))
    (fun l => ∑ e : Fin 64, q (ix3 0 r ⟨64 * h.val + e.val, by omega⟩) * kc (ix2 l ⟨64 * (h.val / 4) + e.val, by omega⟩)) s
    (fun k => vw (ix2 ⟨128 * o.val + k.val, by omega⟩ ⟨64 * (h.val / 4) + d.val, by omega⟩))
    (fun l => vc (ix2 l ⟨64 * (h.val / 4) + d.val, by omega⟩))

/-- The four heads of one group against one window: the operations every block of the kernel repeats. -/
def core (qs : FVec Ideal S512x64 .bf16) (kj vj : FVec Ideal S384x64 .bf16) (kcj vcj : FVec Ideal S256x64 .bf16)
    (b : FVec Ideal S512x384 .f32) (s : FVec Ideal S512x1 .f32) : FVec Ideal S512x64 .f32 :=
  let sw : FVec Ideal S512x384 .f32 := addf (matmul dot_S512x64_S384x64_S512x384_1_1_0_0_n_n none qs kj (constant S512x384 .f32 0x00000000#32)) b
  let sc : FVec Ideal S512x256 .f32 := matmul dot_S512x64_S256x64_S512x256_1_1_0_0_n_n none qs kcj (constant S512x256 .f32 0x00000000#32)
  let mw : FVec Ideal S512x1 .f32 := shapeCast S512x1 (multiReduction .maximumf [1] S512 sw 0xFF800000#32 reduces_S512x384_S512 (.inl rfl) rfl) shapeCasts_S512_S512x1
  let mc : FVec Ideal S512x1 .f32 := shapeCast S512x1 (multiReduction .maximumf [1] S512 sc 0xFF800000#32 reduces_S512x256_S512 (.inl rfl) rfl) shapeCasts_S512_S512x1
  let m : FVec Ideal S512x1 .f32 := maximumf (maximumf mw mc) s
  let pw : FVec Ideal S512x384 .f32 := exp (subf sw (broadcastTo S512x384 m broadcasts_S512x1_S512x384))
  let pc : FVec Ideal S512x256 .f32 := exp (subf sc (broadcastTo S512x256 m broadcasts_S512x1_S512x256))
  let dw : FVec Ideal S512x1 .f32 := shapeCast S512x1 (multiReduction .add [1] S512 pw 0x00000000#32 reduces_S512x384_S512 (.inl rfl) rfl) shapeCasts_S512_S512x1
  let dc : FVec Ideal S512x1 .f32 := shapeCast S512x1 (multiReduction .add [1] S512 pc 0x00000000#32 reduces_S512x256_S512 (.inl rfl) rfl) shapeCasts_S512_S512x1
  let den : FVec Ideal S512x1 .f32 := addf (addf dw dc) (exp (subf s m))
  divf (addf (matmul dot_S512x384_S384x64_S512x64_1_0_0_1_n_n none (truncf .bf16 pw bitsLt_bf16_f32) vj (constant S512x64 .f32 0x00000000#32))
      (matmul dot_S512x256_S256x64_S512x64_1_0_0_1_n_n none (truncf .bf16 pc bitsLt_bf16_f32) vcj (constant S512x64 .f32 0x00000000#32)))
    (broadcastTo S512x64 den broadcasts_S512x1_S512x64)

theorem core_apply (qs : FVec Ideal S512x64 .bf16) (kj vj : FVec Ideal S384x64 .bf16) (kcj vcj : FVec Ideal S256x64 .bf16)
    (b : FVec Ideal S512x384 .f32) (s : FVec Ideal S512x1 .f32) (ρ : Fin 512) (d : Fin 64) :
    core qs kj vj kcj vcj b s (ix2 ρ d)
      = soft (fun k => (∑ e, qs (ix2 ρ e) * kj (ix2 k e)) + b (ix2 ρ k)) (fun l => ∑ e, qs (ix2 ρ e) * kcj (ix2 l e)) (s (ix2 ρ 0))
          (fun k => vj (ix2 k d)) (fun l => vcj (ix2 l d)) := by
  unfold core soft top
  pointwise []

/-- `core` at a row is the head's formula, once its operands are read there. -/
theorem core_head {qs : FVec Ideal S512x64 .bf16} {kj vj : FVec Ideal S384x64 .bf16} {kcj vcj : FVec Ideal S256x64 .bf16}
    {b : FVec Ideal S512x384 .f32} {s : FVec Ideal S512x1 .f32} {ρ : Fin 512} {d : Fin 64}
    {q : FVec Ideal S1x128x512 .bf16} {kw vw : FVec Ideal S768x128 .bf16} {kc vc : FVec Ideal S256x128 .bf16}
    {bias : FVec Ideal S128x384 .f32} {sv : EReal} {o : Fin 4} {h : Fin 8} {r : Fin 128}
    (hq : ∀ e : Fin 64, qs (ix2 ρ e) = q (ix3 0 r ⟨64 * h.val + e.val, by omega⟩))
    (hk : ∀ (k : Fin 384) (e : Fin 64), kj (ix2 k e) = kw (ix2 ⟨128 * o.val + k.val, by omega⟩ ⟨64 * (h.val / 4) + e.val, by omega⟩))
    (hv : ∀ (k : Fin 384) (e : Fin 64), vj (ix2 k e) = vw (ix2 ⟨128 * o.val + k.val, by omega⟩ ⟨64 * (h.val / 4) + e.val, by omega⟩))
    (hkc : ∀ (k : Fin 256) (e : Fin 64), kcj (ix2 k e) = kc (ix2 k ⟨64 * (h.val / 4) + e.val, by omega⟩))
    (hvc : ∀ (k : Fin 256) (e : Fin 64), vcj (ix2 k e) = vc (ix2 k ⟨64 * (h.val / 4) + e.val, by omega⟩))
    (hb : ∀ k : Fin 384, b (ix2 ρ k) = bias (ix2 r k)) (hs : s (ix2 ρ 0) = sv) :
    core qs kj vj kcj vcj b s (ix2 ρ d) = head q kw vw kc vc bias sv o h r d := by
  rw [core_apply]
  unfold head
  simp only [hq, hk, hv, hkc, hvc, hb, hs]

variable (a : BitVec 32) (kw vw : FVec Ideal S768x128 .bf16) (kc vc : FVec Ideal S256x128 .bf16) (io : IVec S128x384 32)
  (bd b7 : FVec Ideal S128x384 .f32) (q : FVec Ideal S1x128x512 .bf16) (s0 s1 s2 s3 : EReal) (r : Fin 128) (d : Fin 64)

theorem back1 (r : Fin 128) (h : 128 + r.val - 128 < 128) : (⟨128 + r.val - 128, h⟩ : Fin 128) = r :=
  Fin.ext (by show 128 + r.val - 128 = r.val; omega)

theorem back2 (r : Fin 128) (h : 256 + r.val - 128 - 128 < 128) : (⟨256 + r.val - 128 - 128, h⟩ : Fin 128) = r :=
  Fin.ext (by show 256 + r.val - 128 - 128 = r.val; omega)

theorem back3 (r : Fin 128) (h : 384 + r.val - 128 - 128 - 128 < 128) : (⟨384 + r.val - 128 - 128 - 128, h⟩ : Fin 128) = r :=
  Fin.ext (by show 384 + r.val - 128 - 128 - 128 = r.val; omega)

/-- The first block's bias: the band, and at the first tile the rows before the start masked too. -/
def bias0 : FVec Ideal S128x384 .f32 := fun i => k0_pay8 (F := Ideal) a io bd 128#32 (ix2 ⟨(i 0).val, (i 0).isLt.trans (by decide)⟩ (i 1))

theorem full00 : k0_pay16 (F := Ideal) vc (k0_pay11 vw) (k0_pay12 a kw io bd 128#32 q) (k0_pay13 kc q) (k0_pay14 (F := Ideal) s0 s1 s2 s3) (k0_pay15 a kw io bd 128#32 q)
    = core (k0_pay10 q) (extractStridedSlice S384x64 ![0, 0] kw slices_S768x128_o0_0_S384x64) (extractStridedSlice S384x64 ![0, 0] vw slices_S768x128_o0_0_S384x64)
        (extractStridedSlice S256x64 ![0, 0] kc slices_S256x128_o0_0_S256x64) (extractStridedSlice S256x64 ![0, 0] vc slices_S256x128_o0_0_S256x64)
        (k0_pay8 (F := Ideal) a io bd 128#32) (k0_pay14 (F := Ideal) s0 s1 s2 s3) := rfl

/-- The heads of group 0 in the tile's block 0. -/
theorem pieces00 :
    k0_pay17 vc (k0_pay11 vw) (k0_pay12 a kw io bd 128#32 q) (k0_pay13 kc q) (k0_pay14 (F := Ideal) s0 s1 s2 s3) (k0_pay15 a kw io bd 128#32 q) (ix2 r d) = head q kw vw kc vc (bias0 a io bd) s0 0 0 r d ∧
    k0_pay18 vc (k0_pay11 vw) (k0_pay12 a kw io bd 128#32 q) (k0_pay13 kc q) (k0_pay14 (F := Ideal) s0 s1 s2 s3) (k0_pay15 a kw io bd 128#32 q) (ix2 r d) = head q kw vw kc vc (bias0 a io bd) s1 0 1 r d ∧
    k0_pay19 vc (k0_pay11 vw) (k0_pay12 a kw io bd 128#32 q) (k0_pay13 kc q) (k0_pay14 (F := Ideal) s0 s1 s2 s3) (k0_pay15 a kw io bd 128#32 q) (ix2 r d) = head q kw vw kc vc (bias0 a io bd) s2 0 2 r d ∧
    k0_pay21 (k0_pay20 vc (k0_pay11 vw) (k0_pay12 a kw io bd 128#32 q) (k0_pay13 kc q) (k0_pay14 (F := Ideal) s0 s1 s2 s3) (k0_pay15 a kw io bd 128#32 q)) (ix2 r d) = head q kw vw kc vc (bias0 a io bd) s3 0 3 r d := by
  refine ⟨?_, ?_, ?_, ?_⟩
  all_goals
    pointwise [k0_pay17, k0_pay18, k0_pay19, k0_pay20, k0_pay21]
    rw [full00]
    refine core_head (fun e => ?_) (fun k e => ?_) (fun k e => ?_) (fun k e => ?_) (fun k e => ?_) (fun k => ?_) ?_
    all_goals pointwise [k0_pay10, k0_pay22, k0_pay9, k0_pay14, k0_pay8, k0_pay36, k0_pay89, bias0]
    all_goals (split_ifs <;> first | omega | rfl | simp only [back1, back2, back3])

theorem full01 : k0_pay31 (F := Ideal) (k0_pay29 kw kc (k0_pay8 (F := Ideal) a io bd 128#32) (k0_pay9 q) s0 s1 s2 s3) (k0_pay30 kw vw kc vc (k0_pay8 (F := Ideal) a io bd 128#32) (k0_pay9 q) s0 s1 s2 s3)
    = core (k0_pay22 (k0_pay9 q)) (extractStridedSlice S384x64 ![0, 64] kw slices_S768x128_o0_64_S384x64) (extractStridedSlice S384x64 ![0, 64] vw slices_S768x128_o0_64_S384x64)
        (extractStridedSlice S256x64 ![0, 64] kc slices_S256x128_o0_64_S256x64) (extractStridedSlice S256x64 ![0, 64] vc slices_S256x128_o0_64_S256x64)
        (k0_pay8 (F := Ideal) a io bd 128#32) (k0_pay14 (F := Ideal) s0 s1 s2 s3) := rfl

/-- The heads of group 1 in the tile's block 0. -/
theorem pieces01 :
    k0_pay32 (F := Ideal) (k0_pay29 kw kc (k0_pay8 (F := Ideal) a io bd 128#32) (k0_pay9 q) s0 s1 s2 s3) (k0_pay30 kw vw kc vc (k0_pay8 (F := Ideal) a io bd 128#32) (k0_pay9 q) s0 s1 s2 s3) (ix2 r d) = head q kw vw kc vc (bias0 a io bd) s0 0 4 r d ∧
    k0_pay33 (F := Ideal) (k0_pay29 kw kc (k0_pay8 (F := Ideal) a io bd 128#32) (k0_pay9 q) s0 s1 s2 s3) (k0_pay30 kw vw kc vc (k0_pay8 (F := Ideal) a io bd 128#32) (k0_pay9 q) s0 s1 s2 s3) (ix2 r d) = head q kw vw kc vc (bias0 a io bd) s1 0 5 r d ∧
    k0_pay34 (F := Ideal) (k0_pay29 kw kc (k0_pay8 (F := Ideal) a io bd 128#32) (k0_pay9 q) s0 s1 s2 s3) (k0_pay30 kw vw kc vc (k0_pay8 (F := Ideal) a io bd 128#32) (k0_pay9 q) s0 s1 s2 s3) (ix2 r d) = head q kw vw kc vc (bias0 a io bd) s2 0 6 r d ∧
    k0_pay35 (F := Ideal) (k0_pay29 kw kc (k0_pay8 (F := Ideal) a io bd 128#32) (k0_pay9 q) s0 s1 s2 s3) (k0_pay30 kw vw kc vc (k0_pay8 (F := Ideal) a io bd 128#32) (k0_pay9 q) s0 s1 s2 s3) (ix2 r d) = head q kw vw kc vc (bias0 a io bd) s3 0 7 r d := by
  refine ⟨?_, ?_, ?_, ?_⟩
  all_goals
    pointwise [k0_pay32, k0_pay33, k0_pay34, k0_pay35]
    rw [full01]
    refine core_head (fun e => ?_) (fun k e => ?_) (fun k e => ?_) (fun k e => ?_) (fun k e => ?_) (fun k => ?_) ?_
    all_goals pointwise [k0_pay10, k0_pay22, k0_pay9, k0_pay14, k0_pay8, k0_pay36, k0_pay89, bias0]
    all_goals (split_ifs <;> first | omega | rfl | simp only [back1, back2, back3])

theorem full10 : k0_pay44 (F := Ideal) vc (k0_pay39 vw) (k0_pay40 kw bd q) (k0_pay41 kc q) (k0_pay42 (F := Ideal) s0) (k0_pay43 (F := Ideal) s1) s2 s3
    = core (k0_pay10 q) (extractStridedSlice S384x64 ![128, 0] kw slices_S768x128_o128_0_S384x64) (extractStridedSlice S384x64 ![128, 0] vw slices_S768x128_o128_0_S384x64)
        (extractStridedSlice S256x64 ![0, 0] kc slices_S256x128_o0_0_S256x64) (extractStridedSlice S256x64 ![0, 0] vc slices_S256x128_o0_0_S256x64)
        (k0_pay36 bd) (k0_pay14 (F := Ideal) s0 s1 s2 s3) := rfl

/-- The heads of group 0 in the tile's block 1. -/
theorem pieces10 :
    k0_pay45 vc (k0_pay39 vw) (k0_pay40 kw bd q) (k0_pay41 kc q) (k0_pay42 (F := Ideal) s0) (k0_pay43 (F := Ideal) s1) s2 s3 (ix2 r d) = head q kw vw kc vc bd s0 1 0 r d ∧
    k0_pay46 vc (k0_pay39 vw) (k0_pay40 kw bd q) (k0_pay41 kc q) (k0_pay42 (F := Ideal) s0) (k0_pay43 (F := Ideal) s1) s2 s3 (ix2 r d) = head q kw vw kc vc bd s1 1 1 r d ∧
    k0_pay48 (k0_pay47 vc (k0_pay39 vw) (k0_pay40 kw bd q) (k0_pay41 kc q) (k0_pay42 (F := Ideal) s0) (k0_pay43 (F := Ideal) s1) s2 s3) (ix2 r d) = head q kw vw kc vc bd s2 1 2 r d ∧
    k0_pay49 (k0_pay44 vc (k0_pay39 vw) (k0_pay40 kw bd q) (k0_pay41 kc q) (k0_pay42 (F := Ideal) s0) (k0_pay43 (F := Ideal) s1) s2 s3) (ix2 r d) = head q kw vw kc vc bd s3 1 3 r d := by
  refine ⟨?_, ?_, ?_, ?_⟩
  all_goals
    pointwise [k0_pay45, k0_pay46, k0_pay47, k0_pay48, k0_pay49]
    rw [full10]
    refine core_head (fun e => ?_) (fun k e => ?_) (fun k e => ?_) (fun k e => ?_) (fun k e => ?_) (fun k => ?_) ?_
    all_goals pointwise [k0_pay10, k0_pay22, k0_pay9, k0_pay14, k0_pay8, k0_pay36, k0_pay89, bias0]
    all_goals (split_ifs <;> first | omega | rfl | simp only [back1, back2, back3])

theorem full11 : k0_pay60 (F := Ideal) vc (k0_pay51 vw) (k0_pay56 kw kc (k0_pay36 bd) (k0_pay37 q) s0 s1 s2 s3) (k0_pay57 kw kc (k0_pay36 bd) (k0_pay37 q) s0 s1 s2 s3) (k0_pay58 kw kc (k0_pay36 bd) (k0_pay37 q) s0 s1 s2 s3) (k0_pay59 kw kc (k0_pay36 bd) (k0_pay37 q) s0 s1 s2 s3)
    = core (k0_pay22 (k0_pay9 q)) (extractStridedSlice S384x64 ![128, 64] kw slices_S768x128_o128_64_S384x64) (extractStridedSlice S384x64 ![128, 64] vw slices_S768x128_o128_64_S384x64)
        (extractStridedSlice S256x64 ![0, 64] kc slices_S256x128_o0_64_S256x64) (extractStridedSlice S256x64 ![0, 64] vc slices_S256x128_o0_64_S256x64)
        (k0_pay36 bd) (k0_pay14 (F := Ideal) s0 s1 s2 s3) := rfl

/-- The heads of group 1 in the tile's block 1. -/
theorem pieces11 :
    k0_pay61 (F := Ideal) vc (k0_pay51 vw) (k0_pay56 kw kc (k0_pay36 bd) (k0_pay37 q) s0 s1 s2 s3) (k0_pay57 kw kc (k0_pay36 bd) (k0_pay37 q) s0 s1 s2 s3) (k0_pay58 kw kc (k0_pay36 bd) (k0_pay37 q) s0 s1 s2 s3) (k0_pay59 kw kc (k0_pay36 bd) (k0_pay37 q) s0 s1 s2 s3) (ix2 r d) = head q kw vw kc vc bd s0 1 4 r d ∧
    k0_pay62 (F := Ideal) vc (k0_pay51 vw) (k0_pay56 kw kc (k0_pay36 bd) (k0_pay37 q) s0 s1 s2 s3) (k0_pay57 kw kc (k0_pay36 bd) (k0_pay37 q) s0 s1 s2 s3) (k0_pay58 kw kc (k0_pay36 bd) (k0_pay37 q) s0 s1 s2 s3) (k0_pay59 kw kc (k0_pay36 bd) (k0_pay37 q) s0 s1 s2 s3) (ix2 r d) = head q kw vw kc vc bd s1 1 5 r d ∧
    k0_pay63 (F := Ideal) vc (k0_pay51 vw) (k0_pay56 kw kc (k0_pay36 bd) (k0_pay37 q) s0 s1 s2 s3) (k0_pay57 kw kc (k0_pay36 bd) (k0_pay37 q) s0 s1 s2 s3) (k0_pay58 kw kc (k0_pay36 bd) (k0_pay37 q) s0 s1 s2 s3) (k0_pay59 kw kc (k0_pay36 bd) (k0_pay37 q) s0 s1 s2 s3) (ix2 r d) = head q kw vw kc vc bd s2 1 6 r d ∧
    k0_pay64 (F := Ideal) vc (k0_pay51 vw) (k0_pay56 kw kc (k0_pay36 bd) (k0_pay37 q) s0 s1 s2 s3) (k0_pay57 kw kc (k0_pay36 bd) (k0_pay37 q) s0 s1 s2 s3) (k0_pay58 kw kc (k0_pay36 bd) (k0_pay37 q) s0 s1 s2 s3) (k0_pay59 kw kc (k0_pay36 bd) (k0_pay37 q) s0 s1 s2 s3) (ix2 r d) = head q kw vw kc vc bd s3 1 7 r d := by
  refine ⟨?_, ?_, ?_, ?_⟩
  all_goals
    pointwise [k0_pay61, k0_pay62, k0_pay63, k0_pay64]
    rw [full11]
    refine core_head (fun e => ?_) (fun k e => ?_) (fun k e => ?_) (fun k e => ?_) (fun k e => ?_) (fun k => ?_) ?_
    all_goals pointwise [k0_pay10, k0_pay22, k0_pay9, k0_pay14, k0_pay8, k0_pay36, k0_pay89, bias0]
    all_goals (split_ifs <;> first | omega | rfl | simp only [back1, back2, back3])

theorem full20 : k0_pay70 (F := Ideal) kc vc (k0_pay67 q) (k0_pay68 vw) (k0_pay69 kw bd q) s0 s1 s2 s3
    = core (k0_pay10 q) (extractStridedSlice S384x64 ![256, 0] kw slices_S768x128_o256_0_S384x64) (extractStridedSlice S384x64 ![256, 0] vw slices_S768x128_o256_0_S384x64)
        (extractStridedSlice S256x64 ![0, 0] kc slices_S256x128_o0_0_S256x64) (extractStridedSlice S256x64 ![0, 0] vc slices_S256x128_o0_0_S256x64)
        (k0_pay36 bd) (k0_pay14 (F := Ideal) s0 s1 s2 s3) := rfl

/-- The heads of group 0 in the tile's block 2. -/
theorem pieces20 :
    k0_pay71 (F := Ideal) kc vc (k0_pay67 q) (k0_pay68 vw) (k0_pay69 kw bd q) s0 s1 s2 s3 (ix2 r d) = head q kw vw kc vc bd s0 2 0 r d ∧
    k0_pay73 (k0_pay72 (F := Ideal) kc vc (k0_pay67 q) (k0_pay68 vw) (k0_pay69 kw bd q) s0 s1 s2 s3) (ix2 r d) = head q kw vw kc vc bd s1 2 1 r d ∧
    k0_pay74 (k0_pay70 (F := Ideal) kc vc (k0_pay67 q) (k0_pay68 vw) (k0_pay69 kw bd q) s0 s1 s2 s3) (ix2 r d) = head q kw vw kc vc bd s2 2 2 r d ∧
    k0_pay75 (k0_pay70 (F := Ideal) kc vc (k0_pay67 q) (k0_pay68 vw) (k0_pay69 kw bd q) s0 s1 s2 s3) (ix2 r d) = head q kw vw kc vc bd s3 2 3 r d := by
  refine ⟨?_, ?_, ?_, ?_⟩
  all_goals
    pointwise [k0_pay71, k0_pay72, k0_pay73, k0_pay74, k0_pay75]
    rw [full20]
    refine core_head (fun e => ?_) (fun k e => ?_) (fun k e => ?_) (fun k e => ?_) (fun k e => ?_) (fun k => ?_) ?_
    all_goals pointwise [k0_pay10, k0_pay22, k0_pay9, k0_pay14, k0_pay8, k0_pay36, k0_pay89, bias0]
    all_goals (split_ifs <;> first | omega | rfl | simp only [back1, back2, back3])

theorem full21 : k0_pay84 (F := Ideal) vc (k0_pay77 vw) (k0_pay79 kc (k0_pay66 q)) (k0_pay80 (F := Ideal) s0 s1 s2 s3) (k0_pay81 kw kc (k0_pay65 bd) (k0_pay66 q) s0 s1 s2 s3) (k0_pay82 kw kc (k0_pay65 bd) (k0_pay66 q) s0 s1 s2 s3) (k0_pay83 kw kc (k0_pay65 bd) (k0_pay66 q) s0 s1 s2 s3)
    = core (k0_pay22 (k0_pay9 q)) (extractStridedSlice S384x64 ![256, 64] kw slices_S768x128_o256_64_S384x64) (extractStridedSlice S384x64 ![256, 64] vw slices_S768x128_o256_64_S384x64)
        (extractStridedSlice S256x64 ![0, 64] kc slices_S256x128_o0_64_S256x64) (extractStridedSlice S256x64 ![0, 64] vc slices_S256x128_o0_64_S256x64)
        (k0_pay36 bd) (k0_pay14 (F := Ideal) s0 s1 s2 s3) := rfl

/-- The heads of group 1 in the tile's block 2. -/
theorem pieces21 :
    k0_pay85 (F := Ideal) vc (k0_pay77 vw) (k0_pay79 kc (k0_pay66 q)) (k0_pay80 (F := Ideal) s0 s1 s2 s3) (k0_pay81 kw kc (k0_pay65 bd) (k0_pay66 q) s0 s1 s2 s3) (k0_pay82 kw kc (k0_pay65 bd) (k0_pay66 q) s0 s1 s2 s3) (k0_pay83 kw kc (k0_pay65 bd) (k0_pay66 q) s0 s1 s2 s3) (ix2 r d) = head q kw vw kc vc bd s0 2 4 r d ∧
    k0_pay86 (F := Ideal) vc (k0_pay77 vw) (k0_pay79 kc (k0_pay66 q)) (k0_pay80 (F := Ideal) s0 s1 s2 s3) (k0_pay81 kw kc (k0_pay65 bd) (k0_pay66 q) s0 s1 s2 s3) (k0_pay82 kw kc (k0_pay65 bd) (k0_pay66 q) s0 s1 s2 s3) (k0_pay83 kw kc (k0_pay65 bd) (k0_pay66 q) s0 s1 s2 s3) (ix2 r d) = head q kw vw kc vc bd s1 2 5 r d ∧
    k0_pay87 (F := Ideal) vc (k0_pay77 vw) (k0_pay79 kc (k0_pay66 q)) (k0_pay80 (F := Ideal) s0 s1 s2 s3) (k0_pay81 kw kc (k0_pay65 bd) (k0_pay66 q) s0 s1 s2 s3) (k0_pay82 kw kc (k0_pay65 bd) (k0_pay66 q) s0 s1 s2 s3) (k0_pay83 kw kc (k0_pay65 bd) (k0_pay66 q) s0 s1 s2 s3) (ix2 r d) = head q kw vw kc vc bd s2 2 6 r d ∧
    k0_pay88 (F := Ideal) vc (k0_pay77 vw) (k0_pay79 kc (k0_pay66 q)) (k0_pay80 (F := Ideal) s0 s1 s2 s3) (k0_pay81 kw kc (k0_pay65 bd) (k0_pay66 q) s0 s1 s2 s3) (k0_pay82 kw kc (k0_pay65 bd) (k0_pay66 q) s0 s1 s2 s3) (k0_pay83 kw kc (k0_pay65 bd) (k0_pay66 q) s0 s1 s2 s3) (ix2 r d) = head q kw vw kc vc bd s3 2 7 r d := by
  refine ⟨?_, ?_, ?_, ?_⟩
  all_goals
    pointwise [k0_pay85, k0_pay86, k0_pay87, k0_pay88]
    rw [full21]
    refine core_head (fun e => ?_) (fun k e => ?_) (fun k e => ?_) (fun k e => ?_) (fun k e => ?_) (fun k => ?_) ?_
    all_goals pointwise [k0_pay10, k0_pay22, k0_pay9, k0_pay14, k0_pay8, k0_pay36, k0_pay89, bias0]
    all_goals (split_ifs <;> first | omega | rfl | simp only [back1, back2, back3])

theorem full30 : k0_pay100 (F := Ideal) (k0_pay98 kw vw kc vc (k0_pay89 bd b7) q s0 s1 s2 s3) (k0_pay99 kw kc (k0_pay89 bd b7) q s0 s1 s2 s3)
    = core (k0_pay10 q) (extractStridedSlice S384x64 ![384, 0] kw slices_S768x128_o384_0_S384x64) (extractStridedSlice S384x64 ![384, 0] vw slices_S768x128_o384_0_S384x64)
        (extractStridedSlice S256x64 ![0, 0] kc slices_S256x128_o0_0_S256x64) (extractStridedSlice S256x64 ![0, 0] vc slices_S256x128_o0_0_S256x64)
        (k0_pay89 bd b7) (k0_pay14 (F := Ideal) s0 s1 s2 s3) := rfl

/-- The heads of group 0 in the tile's block 3. -/
theorem pieces30 :
    k0_pay101 (F := Ideal) (k0_pay98 kw vw kc vc (k0_pay89 bd b7) q s0 s1 s2 s3) (k0_pay99 kw kc (k0_pay89 bd b7) q s0 s1 s2 s3) (ix2 r d) = head q kw vw kc vc (addf bd b7) s0 3 0 r d ∧
    k0_pay102 (F := Ideal) (k0_pay98 kw vw kc vc (k0_pay89 bd b7) q s0 s1 s2 s3) (k0_pay99 kw kc (k0_pay89 bd b7) q s0 s1 s2 s3) (ix2 r d) = head q kw vw kc vc (addf bd b7) s1 3 1 r d ∧
    k0_pay103 (F := Ideal) (k0_pay98 kw vw kc vc (k0_pay89 bd b7) q s0 s1 s2 s3) (k0_pay99 kw kc (k0_pay89 bd b7) q s0 s1 s2 s3) (ix2 r d) = head q kw vw kc vc (addf bd b7) s2 3 2 r d ∧
    k0_pay104 (F := Ideal) (k0_pay98 kw vw kc vc (k0_pay89 bd b7) q s0 s1 s2 s3) (k0_pay99 kw kc (k0_pay89 bd b7) q s0 s1 s2 s3) (ix2 r d) = head q kw vw kc vc (addf bd b7) s3 3 3 r d := by
  refine ⟨?_, ?_, ?_, ?_⟩
  all_goals
    pointwise [k0_pay101, k0_pay102, k0_pay103, k0_pay104]
    rw [full30]
    refine core_head (fun e => ?_) (fun k e => ?_) (fun k e => ?_) (fun k e => ?_) (fun k e => ?_) (fun k => ?_) ?_
    all_goals pointwise [k0_pay10, k0_pay22, k0_pay9, k0_pay14, k0_pay8, k0_pay36, k0_pay89, bias0]
    all_goals (split_ifs <;> first | omega | rfl | simp only [back1, back2, back3])

theorem full31 : k0_pay110 (F := Ideal) vc (k0_pay106 vw) (k0_pay107 kw (k0_pay89 bd b7) (k0_pay90 q)) (k0_pay108 kc (k0_pay90 q)) (k0_pay109 (F := Ideal) s0 s1 s2 s3)
    = core (k0_pay22 (k0_pay9 q)) (extractStridedSlice S384x64 ![384, 64] kw slices_S768x128_o384_64_S384x64) (extractStridedSlice S384x64 ![384, 64] vw slices_S768x128_o384_64_S384x64)
        (extractStridedSlice S256x64 ![0, 64] kc slices_S256x128_o0_64_S256x64) (extractStridedSlice S256x64 ![0, 64] vc slices_S256x128_o0_64_S256x64)
        (k0_pay89 bd b7) (k0_pay14 (F := Ideal) s0 s1 s2 s3) := rfl

/-- The heads of group 1 in the tile's block 3. -/
theorem pieces31 :
    k0_pay111 (F := Ideal) vc (k0_pay106 vw) (k0_pay107 kw (k0_pay89 bd b7) (k0_pay90 q)) (k0_pay108 kc (k0_pay90 q)) (k0_pay109 (F := Ideal) s0 s1 s2 s3) (ix2 r d) = head q kw vw kc vc (addf bd b7) s0 3 4 r d ∧
    k0_pay112 (F := Ideal) vc (k0_pay106 vw) (k0_pay107 kw (k0_pay89 bd b7) (k0_pay90 q)) (k0_pay108 kc (k0_pay90 q)) (k0_pay109 (F := Ideal) s0 s1 s2 s3) (ix2 r d) = head q kw vw kc vc (addf bd b7) s1 3 5 r d ∧
    k0_pay113 (F := Ideal) vc (k0_pay106 vw) (k0_pay107 kw (k0_pay89 bd b7) (k0_pay90 q)) (k0_pay108 kc (k0_pay90 q)) (k0_pay109 (F := Ideal) s0 s1 s2 s3) (ix2 r d) = head q kw vw kc vc (addf bd b7) s2 3 6 r d ∧
    k0_pay115 (k0_pay114 (F := Ideal) vc (k0_pay106 vw) (k0_pay107 kw (k0_pay89 bd b7) (k0_pay90 q)) (k0_pay108 kc (k0_pay90 q)) (k0_pay109 (F := Ideal) s0 s1 s2 s3)) (ix2 r d) = head q kw vw kc vc (addf bd b7) s3 3 7 r d := by
  refine ⟨?_, ?_, ?_, ?_⟩
  all_goals
    pointwise [k0_pay111, k0_pay112, k0_pay113, k0_pay114, k0_pay115]
    rw [full31]
    refine core_head (fun e => ?_) (fun k e => ?_) (fun k e => ?_) (fun k e => ?_) (fun k e => ?_) (fun k => ?_) ?_
    all_goals pointwise [k0_pay10, k0_pay22, k0_pay9, k0_pay14, k0_pay8, k0_pay36, k0_pay89, bias0]
    all_goals (split_ifs <;> first | omega | rfl | simp only [back1, back2, back3])

end Cert.AttnHeads
end
-- ==== Proof.AttnBlock.lean ====
module

public import proofs.«01_k».proof.Proof.Gen.AttnIdeal.Value
public import proofs.«01_k».proof.Proof.AttnHeads
public import proofs.«01_k».proof.Proof.FfnRows
public import Idealize.ShloMosaic.Lib.Pipeline.ValueKit
public import Idealize.ShloMosaic.Lib.Pipeline.ReadBack

@[expose] public section

/-! What the attention kernel leaves: at each grid point 512 tokens, four blocks of queries, each from the row formula
`head`, then the projection, the norm and the gated sum. -/

set_option maxRecDepth 16384

noncomputable section

open Idealize.ShloMosaic Idealize.ShloMosaic.TcCoe Idealize.SL.Sem
open Idealize.ShloMosaic.Pipeline (Dat)
open Cert.AttnIdeal Cert.AttnIdeal.Gen Cert.AttnRows Cert.AttnHeads Cert.FfnRows

namespace Cert.AttnBlock

theorem last_apply (sc : FVec Ideal S512x512 .bf16) (wt wb : FVec Ideal S512x1024 .bf16) (og : FVec Ideal S1x512x512 .bf16)
    (gt : FVec Ideal S1x1x1x1024 .f32) (x : FVec Ideal S1x512x1024 .f32) (g : FVec Ideal S1x1x1024 .f32) (r : Fin 512) (k : Fin 1024) :
    k0_pay1 (F := Ideal) (k0_pay116 sc wt og wb gt x g) (ix3 0 r k)
      = x (ix3 0 r k) + gt (ix4 0 0 0 k) * normed (fun j => (∑ e : Fin 512, sc (ix2 r e) * wt (ix2 e j)) + ∑ e : Fin 512, og (ix3 0 r e) * wb (ix2 e j))
          (fun j => g (ix3 0 0 j)) k := by
  pointwise [k0_pay1, k0_pay116]; rfl

variable (m : (ℓ : Loc nD τ sig) → Buf (Elt Ideal) ℓ)

theorem idx : ∀ t : Fin cfg0.N, win0_0.index t = ![0]
    ∧ win0_1.index t = ![t.val / 32, t.val % 32, 0]
    ∧ win0_2.index t = ![t.val / 32, 4 * (t.val % 32) - 1, 0] ∧ win0_3.index t = ![t.val / 32, t.val % 32, 0] ∧ win0_4.index t = ![t.val / 32, min (4 * (t.val % 32) + 4) 127, 0]
    ∧ win0_5.index t = ![t.val / 32, 4 * (t.val % 32) - 1, 0] ∧ win0_6.index t = ![t.val / 32, t.val % 32, 0] ∧ win0_7.index t = ![t.val / 32, min (4 * (t.val % 32) + 4) 127, 0]
    ∧ win0_8.index t = ![t.val / 32, 0, 0] ∧ win0_9.index t = ![t.val / 32, 0, 0]
    ∧ win0_10.index t = ![t.val / 32, t.val % 32, 0] ∧ win0_11.index t = ![t.val / 32, t.val % 32, 0]
    ∧ win0_12.index t = ![0, 2, 0, 0] ∧ win0_13.index t = ![0, 0, 0] ∧ win0_14.index t = ![0, 0]
    ∧ win0_15.index t = ![t.val / 32, t.val % 32, 0] :=
  (by decide +kernel : ∀ t : Fin grid0.N, _)

/-- The row of the modulation table a grid point reads is its batch element's. -/
theorem off1 : ∀ t : Fin cfg0.N, k0_off1 (grid0.coords t) = ![0, 0, t.val / 32, 0] :=
  (by decide +kernel : ∀ t : Fin grid0.N, _)

/-- The tile's number within its sequence, as the kernel reads it. -/
theorem coord1 : ∀ t : Fin cfg0.N, ((grid0.coords t) 1).val = t.val % 32 :=
  (by decide +kernel : ∀ t : Fin grid0.N, _)

/-- The kernel's column numbers, its bias for a block of the tile, and the tile's number as a word. -/
def cols : IVec S128x384 32 := iota .tc S128x384 32 [1] iota_S128x384_d1_w32

def bias (a : BitVec 32) (o : Fin 4) : FVec Ideal S128x384 .f32 :=
  if o = 0 then bias0 a cols k0_pay6 else if o = 3 then addf (k0_pay6 (F := Ideal)) (k0_pay7 a cols) else k0_pay6

/-- What the kernel gathers for the projection: token `r` of the tile, lane `e` of its eight heads. -/
def tile (s : FVec Ideal S8 .f32) (q : FVec Ideal S1x512x512 .bf16) (kw vw : FVec Ideal S768x128 .bf16) (kc vc : FVec Ideal S256x128 .bf16)
    (a : BitVec 32) (r : Fin 512) (e : Fin 512) : EReal :=
  head (fun y => q (ix3 0 ⟨128 * (r.val / 128) + (y 1).val, by have : (y 1).val < 128 := (y 1).isLt; omega⟩ ⟨(y 2).val, (y 2).isLt⟩)) kw vw kc vc
    (bias a ⟨r.val / 128, by omega⟩) (s (ix1 ⟨e.val / 64, by omega⟩)) ⟨r.val / 128, by omega⟩ ⟨e.val / 64, by omega⟩ ⟨r.val % 128, by omega⟩ ⟨e.val % 64, by omega⟩

/-- A stored piece is a part of the tile: block `o`, head `h`. -/
theorem tile_of {s : FVec Ideal S8 .f32} {q : FVec Ideal S1x512x512 .bf16} {kw vw : FVec Ideal S768x128 .bf16} {kc vc : FVec Ideal S256x128 .bf16}
    {a : BitVec 32} {r e : Fin 512} {q' : FVec Ideal S1x128x512 .bf16} {b : FVec Ideal S128x384 .f32} {s' : EReal} {o : Fin 4} {h : Fin 8}
    {ρ : Fin 128} {d : Fin 64} (hr : r.val = 128 * o.val + ρ.val) (he : e.val = 64 * h.val + d.val)
    (hq : ∀ j, q' (ix3 0 ρ j) = q (ix3 0 ⟨128 * o.val + ρ.val, by omega⟩ j)) (hb : b = bias a o) (hs : s' = s (ix1 h)) :
    head q' kw vw kc vc b s' o h ρ d = tile s q kw vw kc vc a r e := by
  have e1 : r.val / 128 = o.val := by omega
  have e2 : e.val / 64 = h.val := by omega
  have e3 : r.val % 128 = ρ.val := by omega
  have e4 : e.val % 64 = d.val := by omega
  subst hb hs
  unfold tile head
  simp only [hq, e1, e2, e3, e4, Fin.eta]
  rfl

/-- A token's result: its input plus the gate times the norm of the projection of the heads and the mixed channels. -/
def outRow (x gt : EReal) (A O : Fin 512 → EReal) (Wt Wb : Fin 512 → Fin 1024 → EReal) (G : Fin 1024 → EReal) (k : Fin 1024) : EReal :=
  x + gt * normed (fun j => (∑ e : Fin 512, A e * Wt e j) + ∑ e : Fin 512, O e * Wb e j) G k

/-- The last step, given what each operand holds. -/
theorem last_of {sc : FVec Ideal S512x512 .bf16} {wt wb : FVec Ideal S512x1024 .bf16} {og : FVec Ideal S1x512x512 .bf16}
    {gt : FVec Ideal S1x1x1x1024 .f32} {x : FVec Ideal S1x512x1024 .f32} {g : FVec Ideal S1x1x1024 .f32} {r : Fin 512} {k : Fin 1024}
    (A O : Fin 512 → EReal) (Wt Wb : Fin 512 → Fin 1024 → EReal) (G : Fin 1024 → EReal) (u v : EReal)
    (hsc : ∀ e, sc (ix2 r e) = A e) (hwt : ∀ e j, wt (ix2 e j) = Wt e j) (hwb : ∀ e j, wb (ix2 e j) = Wb e j)
    (hog : ∀ e, og (ix3 0 r e) = O e) (hgt : gt (ix4 0 0 0 k) = u) (hx : x (ix3 0 r k) = v) (hg : ∀ j, g (ix3 0 0 j) = G j) :
    k0_pay1 (F := Ideal) (k0_pay116 sc wt og wb gt x g) (ix3 0 r k)
      = outRow v u A O Wt Wb G k := by
  rw [last_apply]
  unfold outRow
  simp only [hsc, hwt, hwb, hog, hgt, hx, hg]

set_option maxHeartbeats 8000000 in
theorem point (c : Dev nD) (t : Fin cfg0.N) (r : Fin 512) (k : Fin 1024) :
    (show EReal from outsAt0 m c t (ix3 0 r k))
      = outRow (iblk m c 11 t (ix3 0 r k)) (iblk m c 12 t (ix4 0 0 ⟨t.val / 32, by have := t.isLt; change t.val < 64 at this; omega⟩ k))
          (fun e => tile (iblk m c 0 t) (iblk m c 1 t) (k0_pay2 (F := Ideal) (iblk m c 2 t) (iblk m c 3 t) (iblk m c 4 t))
            (k0_pay3 (F := Ideal) (iblk m c 5 t) (iblk m c 6 t) (iblk m c 7 t)) (k0_pay4 (F := Ideal) (iblk m c 8 t)) (k0_pay5 (F := Ideal) (iblk m c 9 t))
            (BitVec.ofNat 32 (t.val % 32)) r e)
          (fun e => iblk m c 10 t (ix3 0 r e)) (fun e j => iblk m c 14 t (ix2 ⟨e.val, by omega⟩ j)) (fun e j => iblk m c 14 t (ix2 ⟨512 + e.val, by omega⟩ j))
          (fun j => iblk m c 13 t (ix3 0 0 j)) k := by
  unfold outsAt0 out0_A_15
  frame_open
  simp (disch := decide) only [↓ View.readCov_skip, ↓ View.readCov_cons_toLoadRect, ↓ View.readCov_fill]
  frame_out
  refine last_of _ _ (fun e j => iblk m c 14 t (ix2 ⟨e.val, by omega⟩ j)) (fun e j => iblk m c 14 t (ix2 ⟨512 + e.val, by omega⟩ j)) _ _ _ (fun e => ?_)
    (fun e j => ?_) (fun e j => ?_) (fun e => rfl) ?_ rfl (fun j => rfl)
  · rw [View.readCov_eq_canon']
    refine (congrArg (View.canon _) (?_ : _ = ix2 r e)).trans ?_
    · funext d
      refine Fin.ext ?_
      fin_cases d
      · show 0 + 1 * r.val = r.val
        omega
      · show 0 + 1 * e.val = e.val
        omega
    canon_tiles x hx
    all_goals
      idx_vars x
      simp only [pieces00, pieces01, pieces10, pieces11, pieces20, pieces21, pieces30, pieces31]
    all_goals
      refine tile_of ?_ ?_ (fun j => ?_) ?_ ?_
      · first | assumption | (simp only [Fin.isValue, Fin.val_zero, Nat.mul_zero, Nat.zero_add]; assumption)
      · first | assumption | (simp only [Fin.isValue, Fin.val_zero, Nat.mul_zero, Nat.zero_add]; assumption)
      · pointwise []
      · first | (rw [coord1 t]; rfl) | rfl
      · pointwise []
  · pointwise []
  · pointwise []
  · pointwise [off1 t]

end Cert.AttnBlock

end
-- ==== Proof.AttnSoft.lean ====
module

public import proofs.«01_k».proof.Proof.AttnRows

@[expose] public section

/-! The two forms of the attention's weighted sum are equal: dividing each weight and dividing the sum once.
A masked key has the score minus infinity, so its weight is zero and its value is not read. -/

noncomputable section

open Idealize.ShloMosaic

namespace Cert.AttnRows

/-- Query `r` of block `n` attends to key `k` of its window: at most 128 tokens apart, and within the sequence. -/
def valid (n r k : ℕ) : Prop := r ≤ k ∧ k ≤ r + 256 ∧ 128 ≤ 128 * n + k ∧ 128 * n + k < 16512

instance (n r k : ℕ) : Decidable (valid n r k) := inferInstanceAs (Decidable (_ ∧ _ ∧ _ ∧ _))

/-- The token that key `k` of block `n`'s window is. -/
def krow (n k : ℕ) : Fin 16384 := ⟨min (128 * n + k - 128) 16383, by omega⟩

/-- One head's result for query `r` of block `n`, from the query, the keys and values of its sequence, and those of the context. -/
def attn (q : Fin 64 → EReal) (K : Fin 16384 → Fin 64 → EReal) (V : Fin 16384 → EReal) (Kc : Fin 256 → Fin 64 → EReal)
    (Vc : Fin 256 → EReal) (s : EReal) (n r : ℕ) : EReal :=
  soft (fun k => if valid n r k.val then ∑ e, q e * K (krow n k.val) e else ⊥) (fun l => ∑ e, q e * Kc l e) s
    (fun k => if valid n r k.val then V (krow n k.val) else 0) Vc

/-- The test of a distance against 128, on words: `z` is the distance plus 255. -/
theorem near : ∀ z : Fin 512, IntOp.cmpi .sle (IntOp.absi (IntOp.subi (BitVec.ofNat 32 z.val) 255#32)) 128#32
    = if 127 ≤ z.val ∧ z.val ≤ 383 then 1#1 else 0#1 := by
  decide +kernel

theorem exp_masked (t : EReal) : Ideal.exp (⊥ - t) = 0 := by
  rw [EReal.bot_sub, Ideal.exp_bot]

/-- `soft` at scores and values that agree with the masked ones is `attn`. -/
theorem soft_eq_attn {sw : Fin 384 → EReal} {sc : Fin 256 → EReal} {s : EReal} {vw : Fin 384 → EReal} {vc : Fin 256 → EReal}
    (q : Fin 64 → EReal) (K : Fin 16384 → Fin 64 → EReal) (V : Fin 16384 → EReal) (Kc : Fin 256 → Fin 64 → EReal) (n r : ℕ)
    (hs : ∀ k : Fin 384, sw k = if valid n r k.val then ∑ e, q e * K (krow n k.val) e else ⊥) (hc : ∀ l, sc l = ∑ e, q e * Kc l e)
    (hv : ∀ k : Fin 384, valid n r k.val → vw k = V (krow n k.val)) :
    soft sw sc s vw vc = attn q K V Kc vc s n r := by
  obtain rfl := funext hs
  obtain rfl := funext hc
  unfold attn soft
  refine congrArg₂ Ideal.div (congrArg (· + _) (Finset.sum_congr rfl fun k _ => ?_)) rfl
  by_cases h : valid n r k.val
  · simp only [if_pos h, hv k h]
  · simp only [if_neg h, exp_masked, zero_mul]

theorem low_eq : Ideal.ofBits .f32 0xFF800000#32 = ⊥ := by simp [Ideal.ofBits, Ideal.ieee]

/-- Index 641 is 384 window keys, 256 context keys and the sink. -/
theorem sum641 (F : Fin 641 → EReal) :
    ∑ x, F x = (∑ k : Fin 384, F ⟨k.val, by omega⟩) + (∑ l : Fin 256, F ⟨384 + l.val, by omega⟩) + F ⟨640, by omega⟩ := by
  rw [show (∑ x, F x) = ∑ x : Fin (640 + 1), F x from rfl, Fin.sum_univ_castSucc]
  refine congrArg₂ (· + ·) ?_ rfl
  exact Fin.sum_univ_add (a := 384) (b := 256) fun x => F ⟨x.val, by omega⟩

theorem top641 (F : Fin 641 → EReal) :
    max (Ideal.ofBits .f32 0xFF800000#32) (Finset.fold max (Ideal.ofBits .f32 0xFF800000#32) F Finset.univ)
      = top (fun k => F ⟨k.val, by omega⟩) (fun l => F ⟨384 + l.val, by omega⟩) (F ⟨640, by omega⟩) := by
  unfold top
  rw [low_eq, max_eq_right bot_le]
  have up : ∀ x, F x ≤ Finset.fold max ⊥ F Finset.univ := fun x => (Finset.le_fold_max _).2 (.inr ⟨x, Finset.mem_univ _, le_rfl⟩)
  apply le_antisymm
  · refine (Finset.fold_max_le _).2 ⟨bot_le, fun x _ => ?_⟩
    rcases lt_or_ge x.val 384 with h | h
    · exact le_max_of_le_left (le_max_of_le_left ((Finset.le_fold_max _).2 (.inr ⟨⟨x.val, h⟩, Finset.mem_univ _, le_rfl⟩)))
    rcases lt_or_ge x.val 640 with h' | h'
    · refine le_max_of_le_left (le_max_of_le_right ((Finset.le_fold_max _).2 (.inr ⟨⟨x.val - 384, by omega⟩, Finset.mem_univ _, ?_⟩)))
      exact le_of_eq (congrArg F (Fin.ext (by show x.val = 384 + (x.val - 384); omega)))
    · exact le_max_of_le_right (le_of_eq (congrArg F (Fin.ext (by show x.val = 640; omega))))
  · exact max_le (max_le ((Finset.fold_max_le _).2 ⟨bot_le, fun k _ => up _⟩) ((Finset.fold_max_le _).2 ⟨bot_le, fun l _ => up _⟩)) (up _)

/-- A real sum is not infinite. -/
theorem real_sum {ι : Type} (s : Finset ι) (f : ι → EReal) (h : ∀ i ∈ s, ∃ x : ℝ, f i = x) : ∃ x : ℝ, ∑ i ∈ s, f i = x := by
  classical
  induction s using Finset.induction_on with
  | empty => exact ⟨0, by simp⟩
  | insert a t ha ih =>
    obtain ⟨x, hx⟩ := h a (Finset.mem_insert_self _ _)
    obtain ⟨y, hy⟩ := ih fun i hi => h i (Finset.mem_insert_of_mem hi)
    exact ⟨x + y, by rw [Finset.sum_insert ha, hx, hy, EReal.coe_add]⟩

theorem real_dot {ι : Type} [Fintype ι] (f g : ι → EReal) (hf : ∀ i, ∃ x : ℝ, f i = x) (hg : ∀ i, ∃ x : ℝ, g i = x) :
    ∃ x : ℝ, ∑ i, f i * g i = x :=
  real_sum _ _ fun i _ => by
    obtain ⟨x, hx⟩ := hf i
    obtain ⟨y, hy⟩ := hg i
    exact ⟨x * y, by rw [hx, hy, EReal.coe_mul]⟩

/-- The weight of a score that is not plus infinity, at a finite maximum, is a nonnegative real number. -/
theorem weight_real {x : EReal} (h : x ≠ ⊤) (t : ℝ) : ∃ y : ℝ, 0 ≤ y ∧ Ideal.exp (x - t) = y := by
  induction x with
  | bot => exact ⟨0, le_rfl, by rw [exp_masked]; rfl⟩
  | top => exact absurd rfl h
  | coe x => exact ⟨Real.exp (x - t), (Real.exp_pos _).le, by rw [← EReal.coe_sub, Ideal.exp_coe]⟩

/-- A sum of nonnegative reals is one. -/
theorem nonneg_sum {ι : Type} [Fintype ι] (f : ι → EReal) (h : ∀ i, ∃ y : ℝ, 0 ≤ y ∧ f i = y) : ∃ y : ℝ, 0 ≤ y ∧ ∑ i, f i = y := by
  choose g hg hf using h
  refine ⟨∑ i, g i, Finset.sum_nonneg fun i _ => hg i, ?_⟩
  rw [Finset.sum_congr rfl fun i _ => hf i]
  exact (map_sum (⟨⟨((↑) : ℝ → EReal), EReal.coe_zero⟩, EReal.coe_add⟩ : ℝ →+ EReal) g _).symm

/-- The sum of all weights is a positive real number. -/
theorem den_real {sw : Fin 384 → EReal} {sc : Fin 256 → EReal} {s : EReal} (hw : ∀ k, sw k ≠ ⊤) (hc : ∀ l, sc l ≠ ⊤) (hs : ∃ x : ℝ, s = x) :
    ∃ d : ℝ, 0 < d ∧ (∑ k, Ideal.exp (sw k - top sw sc s)) + (∑ l, Ideal.exp (sc l - top sw sc s)) + Ideal.exp (s - top sw sc s) = d := by
  obtain ⟨x, rfl⟩ := hs
  have ht : ∃ t : ℝ, top sw sc x = t := by
    have h1 : top sw sc x ≠ ⊥ := fun h => EReal.coe_ne_bot x (le_bot_iff.1 ((le_max_right _ _).trans h.le))
    have h2 : top sw sc x ≠ ⊤ := by
      refine ne_of_lt ?_
      unfold top
      rw [low_eq]
      refine max_lt (max_lt ?_ ?_) (EReal.coe_lt_top _)
      · exact (Finset.fold_max_lt _).2 ⟨bot_lt_top, fun k _ => lt_top_iff_ne_top.2 (hw k)⟩
      · exact (Finset.fold_max_lt _).2 ⟨bot_lt_top, fun k _ => lt_top_iff_ne_top.2 (hc k)⟩
    exact ⟨_, (EReal.coe_toReal h2 h1).symm⟩
  obtain ⟨t, ht⟩ := ht
  rw [ht]
  obtain ⟨a, ha, hA⟩ := nonneg_sum _ fun k => weight_real (hw k) t
  obtain ⟨b, hb, hB⟩ := nonneg_sum _ fun l => weight_real (hc l) t
  refine ⟨a + b + Real.exp (x - t), by have := Real.exp_pos (x - t); linarith, ?_⟩
  rw [hA, hB, ← EReal.coe_sub, Ideal.exp_coe, EReal.coe_add, EReal.coe_add]

theorem scaled_sum {ι : Type} (s : Finset ι) (f : ι → EReal) {c : EReal} (h0 : 0 ≤ c) (h1 : c ≠ ⊤) : (∑ i ∈ s, f i) * c = ∑ i ∈ s, f i * c := by
  classical
  induction s using Finset.induction_on with
  | empty => simp
  | insert a t ha ih => rw [Finset.sum_insert ha, Finset.sum_insert ha, EReal.right_distrib_of_nonneg_of_ne_top h0 h1, ih]

/-- The reference's form: each weight divided by the sum over all 641 scores, then the two weighted sums. -/
theorem divided_eq_soft (F : Fin 641 → EReal) (vw : Fin 384 → EReal) (vc : Fin 256 → EReal)
    (hw : ∀ x : Fin 641, F x ≠ ⊤) (hs : ∃ x : ℝ, F ⟨640, by omega⟩ = x) {T D : EReal}
    (hT : T = max (Ideal.ofBits .f32 0xFF800000#32) (Finset.fold max (Ideal.ofBits .f32 0xFF800000#32) F Finset.univ))
    (hD : D = ∑ x, Ideal.exp (F x - T)) :
    (∑ k : Fin 384, vw k * Ideal.div (Ideal.exp (F ⟨k.val, by omega⟩ - T)) D) + (∑ l : Fin 256, vc l * Ideal.div (Ideal.exp (F ⟨384 + l.val, by omega⟩ - T)) D)
      = soft (fun k => F ⟨k.val, by omega⟩) (fun l => F ⟨384 + l.val, by omega⟩) (F ⟨640, by omega⟩) vw vc := by
  rw [top641] at hT
  rw [sum641] at hD
  subst hT
  obtain ⟨d, hd, e⟩ := den_real (sw := fun k => F ⟨k.val, by omega⟩) (sc := fun l => F ⟨384 + l.val, by omega⟩) (s := F ⟨640, by omega⟩)
    (fun k => hw _) (fun l => hw _) hs
  unfold soft
  rw [e] at hD ⊢
  subst hD
  have h0 : (0 : EReal) ≤ ((1 / d : ℝ) : EReal) := EReal.coe_nonneg.2 (by positivity)
  simp only [Ideal.div_coe hd.ne']
  rw [EReal.right_distrib_of_nonneg_of_ne_top h0 (EReal.coe_ne_top _), scaled_sum _ _ h0 (EReal.coe_ne_top _), scaled_sum _ _ h0 (EReal.coe_ne_top _)]
  refine congrArg₂ (· + ·) (Finset.sum_congr rfl fun k _ => ?_) (Finset.sum_congr rfl fun l _ => ?_)
  · rw [mul_comm, mul_right_comm]
  · rw [mul_comm, mul_right_comm]

end Cert.AttnRows

end
-- ==== Proof.AttnFinal.lean ====
module

public import proofs.«01_k».proof.Proof.AttnBlock
public import proofs.«01_k».proof.Proof.AttnSoft

@[expose] public section

/-! The attention kernel's result array: the tiles' formula over the arguments, with the kernel's bias read as the mask. -/

set_option maxRecDepth 16384

noncomputable section

open Idealize.ShloMosaic Idealize.ShloMosaic.TcCoe Idealize.SL.Sem
open Idealize.ShloMosaic.Pipeline (Dat)
open Cert.AttnIdeal Cert.AttnIdeal.Gen Cert.AttnRows Cert.AttnHeads Cert.FfnRows Cert.AttnBlock

namespace Cert.AttnFinal

theorem left : ∀ k : Fin 384, IntOp.cmpi .slt (BitVec.ofNat 32 k.val) 128#32 = if k.val < 128 then 1#1 else 0#1 := by
  decide +kernel

theorem right : ∀ k : Fin 384, IntOp.cmpi .sge (BitVec.ofNat 32 k.val) 256#32 = if 256 ≤ k.val then 1#1 else 0#1 := by
  decide +kernel

theorem first : ∀ i : Fin 32, Scalar.cmpi .eq (BitVec.ofNat 32 i.val) 0#32 = if i.val = 0 then 1#1 else 0#1 := by
  decide +kernel

theorem last : ∀ i : Fin 32, Scalar.cmpi .eq (BitVec.ofNat 32 i.val) 31#32 = if i.val = 31 then 1#1 else 0#1 := by
  decide +kernel

theorem masked : (show EReal from Named.named (F := Ideal) κ "mask" (φ := .f32) 4048155338#32) = ⊥ := rfl

theorem band_word (r : Fin 128) (k : Fin 384) :
    IntOp.subi (IntOp.subi (BitVec.ofNat 32 k.val) 128#32) (BitVec.ofNat 32 r.val) = IntOp.subi (BitVec.ofNat 32 (k.val + 127 - r.val)) 255#32 := by
  unfold IntOp.subi
  apply BitVec.eq_of_toNat_eq
  simp only [BitVec.toNat_sub, BitVec.toNat_ofNat]
  omega

theorem band (r : Fin 128) (k : Fin 384) :
    (show EReal from k0_pay6 (F := Ideal) (ix2 r k)) = if r.val ≤ k.val ∧ k.val ≤ r.val + 256 then 0 else ⊥ := by
  pointwise [k0_pay6]
  rw [band_word, near ⟨k.val + 127 - r.val, by omega⟩]
  have e : (127 ≤ k.val + 127 - r.val ∧ k.val + 127 - r.val ≤ 383) ↔ (r.val ≤ k.val ∧ k.val ≤ r.val + 256) := by omega
  simp only [e]
  split_ifs <;> rfl

theorem before (i : Fin 32) (bd : FVec Ideal S128x384 .f32) (r : Fin 128) (k : Fin 384) :
    (show EReal from bias0 (BitVec.ofNat 32 i.val) cols bd (ix2 r k)) = bd (ix2 r k) + if k.val < 128 ∧ i.val = 0 then ⊥ else 0 := by
  pointwise [bias0, k0_pay8, cols]
  rw [left, first]
  refine congrArg (bd (ix2 r k) + ·) ?_
  by_cases h : k.val < 128 <;> by_cases h' : i.val = 0 <;> simp only [h, h', if_true, if_false, and_true, and_false, and_self] <;> rfl

theorem after (i : Fin 32) (r : Fin 128) (k : Fin 384) :
    (show EReal from k0_pay7 (F := Ideal) (BitVec.ofNat 32 i.val) cols (ix2 r k)) = if 256 ≤ k.val ∧ i.val = 31 then ⊥ else 0 := by
  pointwise [k0_pay7, cols]
  rw [right, last]
  by_cases h : 256 ≤ k.val <;> by_cases h' : i.val = 31 <;> simp only [h, h', if_true, if_false, and_true, and_false, and_self] <;> rfl

/-- The kernel's bias is the mask: zero where the query attends to the key, minus infinity elsewhere. -/
theorem bias_apply (i : Fin 32) (o : Fin 4) (r : Fin 128) (k : Fin 384) :
    (show EReal from bias (BitVec.ofNat 32 i.val) o (ix2 r k)) = if valid (4 * i.val + o.val) r.val k.val then 0 else ⊥ := by
  by_cases hv : valid (4 * i.val + o.val) r.val k.val
  all_goals
    simp only [hv, if_true, if_false]
    unfold valid at hv
    unfold bias
    by_cases h0 : o = 0
    · rw [if_pos h0]
      refine (before i _ r k).trans ((congrArg (· + _) (band r k)).trans ?_)
      subst h0
      rw [Fin.val_zero] at hv
      split_ifs <;> first | omega | simp
    by_cases h3 : o = 3
    · rw [if_neg h0, if_pos h3]
      refine (congrArg₂ (· + ·) (band r k) (after i r k)).trans ?_
      subst h3
      rw [show (3 : Fin 4).val = 3 from rfl] at hv
      split_ifs <;> first | omega | simp
    · rw [if_neg h0, if_neg h3]
      refine (band r k).trans ?_
      have h0' : o.val ≠ 0 := fun h => h0 (Fin.ext h)
      have h3' : o.val ≠ 3 := fun h => h3 (Fin.ext h)
      split_ifs <;> first | omega | rfl

/-- A tile's heads are the attention's formula, once its windows are rows of the sequence wherever they lie within it. -/
theorem tile_eq (i : Fin 32) {s : FVec Ideal S8 .f32} {q : FVec Ideal S1x512x512 .bf16} {kw vw : FVec Ideal S768x128 .bf16} {kc vc : FVec Ideal S256x128 .bf16}
    (K V : Fin 16384 → Fin 128 → EReal)
    (hk : ∀ (x : Fin 768) (j : Fin 128) (t : Fin 16384), t.val + 128 = 512 * i.val + x.val → kw (ix2 x j) = K t j)
    (hv : ∀ (x : Fin 768) (j : Fin 128) (t : Fin 16384), t.val + 128 = 512 * i.val + x.val → vw (ix2 x j) = V t j) (r e : Fin 512) :
    tile s q kw vw kc vc (BitVec.ofNat 32 i.val) r e
      = attn (fun d => q (ix3 0 r ⟨64 * (e.val / 64) + d.val, by omega⟩)) (fun t d => K t ⟨64 * (e.val / 64 / 4) + d.val, by omega⟩)
          (fun t => V t ⟨64 * (e.val / 64 / 4) + e.val % 64, by omega⟩) (fun l d => kc (ix2 l ⟨64 * (e.val / 64 / 4) + d.val, by omega⟩))
          (fun l => vc (ix2 l ⟨64 * (e.val / 64 / 4) + e.val % 64, by omega⟩)) (s (ix1 ⟨e.val / 64, by omega⟩)) (4 * i.val + r.val / 128) (r.val % 128) := by
  have hr : 128 * (r.val / 128) + r.val % 128 = r.val := by omega
  have hrow : ∀ k : Fin 384, valid (4 * i.val + r.val / 128) (r.val % 128) k.val
      → (krow (4 * i.val + r.val / 128) k.val).val + 128 = 512 * i.val + (128 * (r.val / 128) + k.val) := by
    intro k h
    unfold valid at h
    show min (128 * (4 * i.val + r.val / 128) + k.val - 128) 16383 + 128 = _
    omega
  unfold tile head
  refine soft_eq_attn _ _ _ _ _ _ (fun k => ?_) (fun l => ?_) (fun k h => ?_)
  · refine (congrArg (_ + ·) (bias_apply i ⟨r.val / 128, by omega⟩ ⟨r.val % 128, by omega⟩ k)).trans ?_
    by_cases h : valid (4 * i.val + r.val / 128) (r.val % 128) k.val
    · rw [if_pos h, if_pos h, add_zero]
      refine Finset.sum_congr rfl fun d _ => congrArg₂ (· * ·) (congrArg q ?_) (hk _ _ _ (hrow k h))
      funext z
      fin_cases z
      · rfl
      · exact Fin.ext hr
      · rfl
    · rw [if_neg h, if_neg h, EReal.add_bot]
  · refine Finset.sum_congr rfl fun d _ => congrArg₂ (· * ·) (congrArg q ?_) rfl
    funext z
    fin_cases z
    · rfl
    · exact Fin.ext hr
    · rfl
  · exact hv _ _ _ (hrow k h)

/-- The call's formula over its arguments, at batch `b`, token `s`, column `j`. -/
def G (x : FVec Ideal S2x16384x1024 .f32) (md : FVec Ideal S2x6x8x1024 .f32) (g : FVec Ideal S2x1024 .f32) (sink : FVec Ideal S1x8 .f32)
    (w : FVec Ideal S1x1024x1024 .f32) (q : FVec Ideal S2x16384x512 .bf16) (K V : FVec Ideal S2x16384x128 .bf16) (kc vc : FVec Ideal S2x256x128 .bf16)
    (og : FVec Ideal S2x16384x512 .bf16) (b : Fin 2) (s : Fin 16384) (j : Fin 1024) : EReal :=
  outRow (x (ix3 b s j)) (md (ix4 0 2 ⟨b.val, by omega⟩ j))
    (fun e => attn (fun d => q (ix3 b s ⟨64 * (e.val / 64) + d.val, by omega⟩)) (fun t d => K (ix3 b t ⟨64 * (e.val / 64 / 4) + d.val, by omega⟩))
      (fun t => V (ix3 b t ⟨64 * (e.val / 64 / 4) + e.val % 64, by omega⟩)) (fun l d => kc (ix3 b l ⟨64 * (e.val / 64 / 4) + d.val, by omega⟩))
      (fun l => vc (ix3 b l ⟨64 * (e.val / 64 / 4) + e.val % 64, by omega⟩)) (sink (ix2 0 ⟨e.val / 64, by omega⟩)) (s.val / 128) (s.val % 128))
    (fun e => og (ix3 b s e)) (fun e j => w (ix3 0 ⟨e.val, by omega⟩ j)) (fun e j => w (ix3 0 ⟨512 + e.val, by omega⟩ j)) (fun j => g (ix2 0 j)) j

theorem outRow_congr {x x' gt gt' : EReal} {A A' O O' : Fin 512 → EReal} {Wt Wt' Wb Wb' : Fin 512 → Fin 1024 → EReal} {G G' : Fin 1024 → EReal} {k k' : Fin 1024}
    (h0 : x = x') (h1 : gt = gt') (h2 : ∀ e, A e = A' e) (h3 : ∀ e, O e = O' e) (h4 : ∀ e j, Wt e j = Wt' e j) (h5 : ∀ e j, Wb e j = Wb' e j)
    (h6 : ∀ j, G j = G' j) (h7 : k = k') : outRow x gt A O Wt Wb G k = outRow x' gt' A' O' Wt' Wb' G' k' := by
  obtain rfl := funext h2; obtain rfl := funext h3; obtain rfl := funext fun e => funext (h4 e); obtain rfl := funext fun e => funext (h5 e)
  obtain rfl := funext h6; rw [h0, h1, h7]

theorem attn_congr {q q' : Fin 64 → EReal} {K K' : Fin 16384 → Fin 64 → EReal} {V V' : Fin 16384 → EReal} {Kc Kc' : Fin 256 → Fin 64 → EReal}
    {Vc Vc' : Fin 256 → EReal} {s s' : EReal} {n n' r r' : ℕ} (h0 : ∀ d, q d = q' d) (h1 : ∀ t d, K t d = K' t d) (h2 : ∀ t, V t = V' t)
    (h3 : ∀ l d, Kc l d = Kc' l d) (h4 : ∀ l, Vc l = Vc' l) (h5 : s = s') (h6 : n = n') (h7 : r = r') :
    attn q K V Kc Vc s n r = attn q' K' V' Kc' Vc' s' n' r' := by
  obtain rfl := funext h0; obtain rfl := funext fun t => funext (h1 t); obtain rfl := funext h2; obtain rfl := funext fun l => funext (h3 l)
  obtain rfl := funext h4; rw [h5, h6, h7]

variable (a : FVec Ideal S1x128x128 .bf16) (b : FVec Ideal S1x512x128 .bf16) (d : FVec Ideal S1x128x128 .bf16) (x : Fin 768) (j : Fin 128)

theorem keys_apply : (show EReal from k0_pay2 (F := Ideal) a b d (ix2 x j))
    = if h : x.val < 128 then a (ix3 0 ⟨x.val, h⟩ j) else if h' : x.val - 128 < 512 then b (ix3 0 ⟨x.val - 128, h'⟩ j)
      else d (ix3 0 ⟨x.val - 128 - 512, by omega⟩ j) := by
  pointwise [k0_pay2]

theorem values_apply : (show EReal from k0_pay3 (F := Ideal) a b d (ix2 x j))
    = if h : x.val < 128 then a (ix3 0 ⟨x.val, h⟩ j) else if h' : x.val - 128 < 512 then b (ix3 0 ⟨x.val - 128, h'⟩ j)
      else d (ix3 0 ⟨x.val - 128 - 512, by omega⟩ j) := by
  pointwise [k0_pay3]

variable (m : (ℓ : Loc nD τ sig) → Buf (Elt Ideal) ℓ)

/-- The rows of the sequence that the windows of keys and of values hold. -/
theorem rows (c : Dev nD) (t : Fin cfg0.N) (y : Fin 128) (z : Fin 512) (j : Fin 128) :
    let b : Fin 2 := ⟨t.val / 32, by have : t.val < 64 := t.isLt; omega⟩
    (show EReal from iblk m c 2 t (ix3 0 y j)) = m ((c : Thread nD τ).loc main_arg6) (ix3 b ⟨128 * (4 * (t.val % 32) - 1) + y.val, by omega⟩ j)
    ∧ (show EReal from iblk m c 3 t (ix3 0 z j)) = m ((c : Thread nD τ).loc main_arg6) (ix3 b ⟨512 * (t.val % 32) + z.val, by omega⟩ j)
    ∧ (show EReal from iblk m c 4 t (ix3 0 y j)) = m ((c : Thread nD τ).loc main_arg6) (ix3 b ⟨128 * min (4 * (t.val % 32) + 4) 127 + y.val, by omega⟩ j)
    ∧ (show EReal from iblk m c 5 t (ix3 0 y j)) = m ((c : Thread nD τ).loc main_arg7) (ix3 b ⟨128 * (4 * (t.val % 32) - 1) + y.val, by omega⟩ j)
    ∧ (show EReal from iblk m c 6 t (ix3 0 z j)) = m ((c : Thread nD τ).loc main_arg7) (ix3 b ⟨512 * (t.val % 32) + z.val, by omega⟩ j)
    ∧ (show EReal from iblk m c 7 t (ix3 0 y j)) = m ((c : Thread nD τ).loc main_arg7) (ix3 b ⟨128 * min (4 * (t.val % 32) + 4) 127 + y.val, by omega⟩ j) := by
  refine ⟨?_, ?_, ?_, ?_, ?_, ?_⟩
  all_goals first | (blk_ext [iblk, V, idx t]; done) | (blk_point [iblk, V, idx t]; done) | skip

/-- Row `x` of the three windows together, where it is token `s` of the sequence. -/
theorem row_of {f : Fin 16384 → EReal} {t : ℕ} (ht : t < 32) {x : Fin 768} {s : Fin 16384} (h : s.val + 128 = 512 * t + x.val)
    {a : Fin 128 → EReal} {b : Fin 512 → EReal} {d : Fin 128 → EReal} (ha : ∀ y, a y = f ⟨128 * (4 * t - 1) + y.val, by omega⟩)
    (hb : ∀ y, b y = f ⟨512 * t + y.val, by omega⟩) (hd : ∀ y, d y = f ⟨128 * min (4 * t + 4) 127 + y.val, by omega⟩) :
    (if h : x.val < 128 then a ⟨x.val, h⟩ else if h' : x.val - 128 < 512 then b ⟨x.val - 128, h'⟩ else d ⟨x.val - 128 - 512, by omega⟩) = f s := by
  have hs := s.isLt
  split_ifs with h1 h2
  · rw [ha]; exact congrArg f (Fin.ext (by dsimp only; omega))
  · rw [hb]; exact congrArg f (Fin.ext (by dsimp only; omega))
  · rw [hd]; exact congrArg f (Fin.ext (by dsimp only; omega))

/-- `G` at the kernel's memory, as an array. -/
def result (c : Dev nD) : FVec Ideal S2x16384x1024 .f32 := fun i =>
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (i 0) (i 1) (i 2)

set_option maxHeartbeats 4000000 in
theorem final (c : Dev nD) : (dats m 0 c).arrAt 15 cfg0.N = result m c := by
  refine (dats m 0 c).arrAt_eq_of_covers 15 _ (by decide +kernel) fun t _ y => ?_
  blk_simp
  rw [after0_15]
  idx_vars y
  obtain rfl : y0 = 0 := Subsingleton.elim _ _
  refine (point m c t y1 y2).trans ?_
  have ht : t.val < 64 := t.isLt
  unfold result G
  refine outRow_congr ?_ ?_ (fun e => ?_) (fun e => ?_) (fun e j => ?_) (fun e j => ?_) (fun j => ?_) ?_
  rotate_left 2
  · refine (tile_eq ⟨t.val % 32, by omega⟩ (fun s j => m ((c : Thread nD τ).loc main_arg6) (ix3 ⟨t.val / 32, by omega⟩ s j))
      (fun s j => m ((c : Thread nD τ).loc main_arg7) (ix3 ⟨t.val / 32, by omega⟩ s j)) (fun x j s h => ?_) (fun x j s h => ?_) y1 e).trans ?_
    · exact (keys_apply _ _ _ x j).trans (row_of (f := fun s => m ((c : Thread nD τ).loc main_arg6) (ix3 ⟨t.val / 32, by omega⟩ s j)) (by omega) h
        (fun y => (rows m c t y 0 j).1) (fun z => (rows m c t 0 z j).2.1) (fun y => (rows m c t y 0 j).2.2.1))
    · exact (values_apply _ _ _ x j).trans (row_of (f := fun s => m ((c : Thread nD τ).loc main_arg7) (ix3 ⟨t.val / 32, by omega⟩ s j)) (by omega) h
        (fun y => (rows m c t y 0 j).2.2.2.1) (fun z => (rows m c t 0 z j).2.2.2.2.1) (fun y => (rows m c t y 0 j).2.2.2.2.2))
    · refine attn_congr (fun d => ?_) (fun s d => ?_) (fun s => ?_) (fun l d => ?_) (fun l => ?_) ?_ ?_ ?_
      all_goals first | (blk_ext [iblk, V, idx t]; done) | (blk_point [iblk, V, idx t]; done) | skip
      all_goals blk_simp [idx t]
      all_goals
        try dsimp only
        omega
  all_goals first | (blk_ext [iblk, V, idx t]; done) | (blk_point [iblk, V, idx t]; done) | skip
  all_goals first | exact Fin.ext (by blk_simp [idx t]) | skip

end Cert.AttnFinal

end
-- ==== Proof.AttnRefArgs.lean ====
module

public import proofs.«01_k».proof.Proof.Gen.AttnRefIdeal.Run
public import proofs.«01_k».proof.Proof.AttnSoft
public import proofs.«01_k».proof.Proof.FfnRows
public import Idealize.ShloMosaic.Lib.Pointwise

@[expose] public section

/-! The reference's arguments, and its window of three blocks of keys. -/

set_option maxRecDepth 16384

noncomputable section

open Idealize.ShloMosaic Idealize.ShloMosaic.TcCoe Idealize.SL.Sem
open Cert.AttnRefIdeal Cert.AttnRefIdeal.Gen Cert.AttnRefIdeal.Value Cert.AttnRows

namespace Cert.AttnRefRow

/-! The arguments, at the types the formulas read them. -/

abbrev argX (V : Valuation τ sig (Elt Ideal)) : FVec Ideal S2x16384x1024 .f32 := V main_arg0
abbrev argMod (V : Valuation τ sig (Elt Ideal)) : FVec Ideal S2x6x8x1024 .f32 := V main_arg1
abbrev argG (V : Valuation τ sig (Elt Ideal)) : FVec Ideal S2x1024 .f32 := V main_arg2
abbrev argSink (V : Valuation τ sig (Elt Ideal)) : FVec Ideal S1x8 .f32 := V main_arg3
abbrev argW (V : Valuation τ sig (Elt Ideal)) : FVec Ideal S1x1024x1024 .f32 := V main_arg4
abbrev argQ (V : Valuation τ sig (Elt Ideal)) : FVec Ideal S2x16384x512 .bf16 := V main_arg5
abbrev argK (V : Valuation τ sig (Elt Ideal)) : FVec Ideal S2x16384x128 .bf16 := V main_arg6
abbrev argV (V : Valuation τ sig (Elt Ideal)) : FVec Ideal S2x16384x128 .bf16 := V main_arg7
abbrev argKc (V : Valuation τ sig (Elt Ideal)) : FVec Ideal S2x256x128 .bf16 := V main_arg8
abbrev argVc (V : Valuation τ sig (Elt Ideal)) : FVec Ideal S2x256x128 .bf16 := V main_arg9
abbrev argO (V : Valuation τ sig (Elt Ideal)) : FVec Ideal S2x16384x512 .bf16 := V main_arg10

/-- The queries, and the weights of the keys. -/
abbrev query (V : Valuation τ sig (Elt Ideal)) : FVec Ideal S2x128x128x2x4x64 .f32 := res_main_v11 V
abbrev weight (V : Valuation τ sig (Elt Ideal)) : FVec Ideal S2x128x2x4x128x641 .f32 := res_main_v82 V

/-- The key of a window, from the padded blocks `P`: one of three neighbouring blocks. -/
def third (P : Fin 130 → Fin 128 → EReal) (n : Fin 128) (k : Fin 384) : EReal :=
  if h : k.val < 128 then P ⟨n.val, by omega⟩ ⟨k.val, h⟩ else if h' : k.val - 128 < 128 then P ⟨1 + n.val, by omega⟩ ⟨k.val - 128, h'⟩
    else P ⟨2 + n.val, by omega⟩ ⟨k.val - 128 - 128, by omega⟩

end Cert.AttnRefRow

end
-- ==== Proof.AttnRefRow.lean ====
module

public import proofs.«01_k».proof.Proof.Gen.AttnRefIdeal.Run
public import proofs.«01_k».proof.Proof.AttnRefArgs
public import Idealize.ShloMosaic.Lib.Pointwise

@[expose] public section

/-! The reference's scores and weights, read at one entry. -/

set_option maxRecDepth 16384

noncomputable section

open Idealize.ShloMosaic Idealize.ShloMosaic.TcCoe Idealize.SL.Sem
open Cert.AttnRefIdeal Cert.AttnRefIdeal.Gen Cert.AttnRefIdeal.Value Cert.AttnRows

namespace Cert.AttnRefRow

theorem reduces6 : Shape.Reduces S2x128x2x4x128x641 [5] S2x128x2x4x128 := by decide

section Reductions

variable (v : FVec Ideal S2x128x2x4x128x641 .f32) (b : Fin 2) (n : Fin 128) (g : Fin 2) (u : Fin 4) (r : Fin 128) (x : Fin 641)

theorem lift6 : reduces6.lift (ix5 b n g u r) x = ix6 b n g u r x := by
  funext d
  fin_cases d <;> rfl

theorem max6 : Host.reduce FloatOps.maximumf v (constant (F := Ideal) S_ .f32 0xFF800000#32) reducesTo_S2x128x2x4x128x641_S2x128x2x4x128_d5 h_S_ (ix5 b n g u r)
    = Finset.fold max (Ideal.ofBits .f32 0xFF800000#32) (fun x : Fin 641 => v (ix6 b n g u r x)) Finset.univ := by
  rw [Host.reduce_eq_fold_single _ _ _ _ reduces6]
  refine Finset.fold_congr fun x _ => ?_
  exact congrArg v (lift6 b n g u r x)

theorem sum6 : Host.reduceAdd v (constant (F := Ideal) S_ .f32 0x00000000#32) reducesTo_S2x128x2x4x128x641_S2x128x2x4x128_d5 h_S_ (ix5 b n g u r)
    = ∑ x : Fin 641, v (ix6 b n g u r x) := by
  refine (Ideal.hostReduceAdd_single _ reduces6 v _ _).trans ?_
  refine (congrArg₂ (· + ·) Ideal.ofBits_zero_f32 (Finset.sum_congr rfl fun x _ => congrArg v (lift6 b n g u r x))).trans (zero_add _)

/-- The exponential of the scores less a number per row, and a quotient by a number per row, with the row's numbers `R` left as they are. -/
theorem exp6 (R : FVec Ideal S2x128x2x4x128 .f32) :
    Host.exp (subf v (broadcastInDim S2x128x2x4x128x641 ![0, 1, 2, 3, 4, 5] bcast_S2x128x2x4x128x1_S2x128x2x4x128x641_0_1_2_3_4_5 (broadcastInDim S2x128x2x4x128x1 ![0, 1, 2, 3, 4] bcast_S2x128x2x4x128_S2x128x2x4x128x1_0_1_2_3_4 (maximumf (broadcastInDim S2x128x2x4x128 ![] bcast_S_S2x128x2x4x128 (constant (F := Ideal) S_ .f32 0xFF800000#32)) R)))) (ix6 b n g u r x)
      = Ideal.exp (v (ix6 b n g u r x) - max (Ideal.ofBits .f32 0xFF800000#32) (R (ix5 b n g u r))) := by
  pointwise []
  try rfl

theorem div6 (R : FVec Ideal S2x128x2x4x128 .f32) :
    Host.divf v (broadcastInDim S2x128x2x4x128x641 ![0, 1, 2, 3, 4, 5] bcast_S2x128x2x4x128x1_S2x128x2x4x128x641_0_1_2_3_4_5 (broadcastInDim S2x128x2x4x128x1 ![0, 1, 2, 3, 4] bcast_S2x128x2x4x128_S2x128x2x4x128x1_0_1_2_3_4 R)) (ix6 b n g u r x)
      = Ideal.div (v (ix6 b n g u r x)) (R (ix5 b n g u r)) := by
  pointwise []
  try rfl

end Reductions

variable (V : Valuation τ sig (Elt Ideal)) (b : Fin 2) (n : Fin 128) (g : Fin 2) (u : Fin 4) (r : Fin 128) (x : Fin 641)

/-- The score of a query against the 641 of its row. -/
def score (x : Fin 641) : EReal := res_main_v71 V (ix6 b n g u r x)

def most : EReal := max (Ideal.ofBits .f32 0xFF800000#32) (Finset.fold max (Ideal.ofBits .f32 0xFF800000#32) (score V b n g u r) Finset.univ)

theorem v78_apply : (show EReal from res_main_v78 V (ix6 b n g u r x)) = Ideal.exp (score V b n g u r x - most V b n g u r) := by
  refine (exp6 (res_main_v71 V) b n g u r x _).trans ?_
  rw [max6]
  rfl

theorem v82_apply : (show EReal from res_main_v82 V (ix6 b n g u r x))
    = Ideal.div (Ideal.exp (score V b n g u r x - most V b n g u r)) (∑ x, Ideal.exp (score V b n g u r x - most V b n g u r)) := by
  refine (div6 (res_main_v78 V) b n g u r x _).trans ?_
  rw [sum6]
  exact congrArg₂ Ideal.div (v78_apply V b n g u r x) (Finset.sum_congr rfl fun x _ => v78_apply V b n g u r x)

theorem v11_apply (e : Fin 64) : (show EReal from res_main_v11 V (ix6 b n r g u e))
    = argQ V (ix3 b ⟨n.val * 128 + r.val, by omega⟩ ⟨g.val * 256 + u.val * 64 + e.val, by omega⟩) := by
  pointwise [res_main_v11]

theorem v13_apply (n : Fin 130) (e : Fin 64) : (show EReal from res_main_v13 V (ix5 b n r g e))
    = if h : 128 ≤ n.val * 128 + r.val ∧ n.val * 128 + r.val - 128 < 16384 then argK V (ix3 b ⟨n.val * 128 + r.val - 128, h.2⟩ ⟨g.val * 64 + e.val, by omega⟩)
      else FloatOps.sitofp (F := Ideal) FTy.f32 0#32 := by
  pointwise [res_main_v13]

theorem v15_apply (n : Fin 130) (e : Fin 64) : (show EReal from res_main_v15 V (ix5 b n r g e))
    = if h : 128 ≤ n.val * 128 + r.val ∧ n.val * 128 + r.val - 128 < 16384 then argV V (ix3 b ⟨n.val * 128 + r.val - 128, h.2⟩ ⟨g.val * 64 + e.val, by omega⟩)
      else FloatOps.sitofp (F := Ideal) FTy.f32 0#32 := by
  pointwise [res_main_v15]

/-- Where the query attends to the key, the key is a token of the sequence. -/
theorem third_eq {P : Fin 130 → Fin 128 → EReal} {f : Fin 16384 → EReal} {z : EReal}
    (h : ∀ n r, P n r = if h : 128 ≤ n.val * 128 + r.val ∧ n.val * 128 + r.val - 128 < 16384 then f ⟨n.val * 128 + r.val - 128, h.2⟩ else z)
    {k : Fin 384} (hv : valid n.val r.val k.val) : third P n k = f (krow n.val k.val) := by
  unfold valid at hv
  unfold third
  split_ifs with h1 h2
  all_goals
    rw [h, dif_pos (by dsimp only; omega)]
    refine congrArg f (Fin.ext ?_)
    show _ = min (128 * n.val + k.val - 128) 16383
    dsimp only
    omega

theorem v45_apply (k : Fin 384) : (show BitVec 32 from res_main_v45 V (ix2 n k)) = IntOp.subi (BitVec.ofNat 32 (128 * n.val + k.val)) 128#32 := by
  refine Eq.trans (b := IntOp.subi (IntOp.addi (IntOp.muli (BitVec.ofNat 32 n.val) 128#32) (BitVec.ofNat 32 k.val)) 128#32) ?_ ?_
  · pointwise [res_main_v45]
  · unfold IntOp.subi IntOp.addi IntOp.muli
    apply BitVec.eq_of_toNat_eq
    simp only [BitVec.toNat_sub, BitVec.toNat_add, BitVec.toNat_mul, BitVec.toNat_ofNat]
    omega

theorem apart (k : Fin 384) : IntOp.subi (IntOp.addi (IntOp.muli (BitVec.ofNat 32 n.val) 128#32) (BitVec.ofNat 32 r.val)) (IntOp.subi (BitVec.ofNat 32 (128 * n.val + k.val)) 128#32)
    = IntOp.subi (BitVec.ofNat 32 (r.val + 383 - k.val)) 255#32 := by
  unfold IntOp.subi IntOp.addi IntOp.muli
  apply BitVec.eq_of_toNat_eq
  simp only [BitVec.toNat_sub, BitVec.toNat_add, BitVec.toNat_mul, BitVec.toNat_ofNat]
  omega

theorem within : ∀ z : Fin 16768, IntOp.cmpi .sge (IntOp.subi (BitVec.ofNat 32 z.val) 128#32) 0#32 = (if 128 ≤ z.val then 1#1 else 0#1)
    ∧ IntOp.cmpi .slt (IntOp.subi (BitVec.ofNat 32 z.val) 128#32) 16384#32 = (if z.val < 16512 then 1#1 else 0#1) := by
  decide +kernel

/-- The reference's mask, as words. -/
theorem mask_eq (k : Fin 384) :
    IntOp.andi (IntOp.andi (IntOp.cmpi .sle (IntOp.absi (IntOp.subi (IntOp.addi (IntOp.muli (BitVec.ofNat 32 n.val) 128#32) (BitVec.ofNat 32 r.val)) (res_main_v45 V (ix2 n k)))) 128#32)
      (IntOp.cmpi .sge (res_main_v45 V (ix2 n k)) 0#32)) (IntOp.cmpi .slt (res_main_v45 V (ix2 n k)) 16384#32)
      = if valid n.val r.val k.val then 1#1 else 0#1 := by
  rw [show res_main_v45 V (ix2 n k) = _ from v45_apply V n k, apart, near ⟨r.val + 383 - k.val, by omega⟩,
    (within ⟨128 * n.val + k.val, by omega⟩).1, (within ⟨128 * n.val + k.val, by omega⟩).2]
  dsimp only
  by_cases hv : valid n.val r.val k.val
  · rw [if_pos hv]
    unfold valid at hv
    rw [if_pos (by omega), if_pos (by omega), if_pos (by omega)]
    rfl
  · rw [if_neg hv]
    unfold valid at hv
    split_ifs <;> first | rfl | omega

set_option maxHeartbeats 2000000 in
theorem window_score (k : Fin 384) : score V b n g u r ⟨k.val, by omega⟩
    = Scalar.select (if valid n.val r.val k.val then 1#1 else 0#1)
        (∑ e : Fin 64, third (fun n r => res_main_v13 V (ix5 b n r g e)) n k * query V (ix6 b n r g u e)) (Ideal.ofBits .f32 0xFF800000#32) := by
  rw [← mask_eq V n r k]
  unfold score third
  pointwise [res_main_v71]
  try rfl

set_option maxHeartbeats 2000000 in
theorem context_score (l : Fin 256) : score V b n g u r ⟨384 + l.val, by omega⟩
    = ∑ e : Fin 64, argKc V (ix3 b l ⟨g.val * 64 + e.val, by omega⟩) * query V (ix6 b n r g u e) := by
  unfold score
  pointwise [res_main_v71]
  try rfl

set_option maxHeartbeats 2000000 in
theorem sink_score : score V b n g u r ⟨640, by omega⟩ = argSink V (ix2 0 ⟨g.val * 4 + u.val, by omega⟩) := by
  unfold score
  pointwise [res_main_v71]
  try rfl

end Cert.AttnRefRow

end
-- ==== Proof.AttnRefHead.lean ====
module

public import proofs.«01_k».proof.Proof.AttnRefRow

@[expose] public section

/-! The reference's heads are the attention's formula. -/

set_option maxRecDepth 16384

noncomputable section

open Idealize.ShloMosaic Idealize.ShloMosaic.TcCoe Idealize.SL.Sem
open Cert.AttnRefIdeal Cert.AttnRefIdeal.Gen Cert.AttnRefIdeal.Value Cert.AttnRows

namespace Cert.AttnRefRow

variable (V : Valuation τ sig (Elt Ideal)) (b : Fin 2) (n : Fin 128) (g : Fin 2) (u : Fin 4) (r : Fin 128)

/-- The query, the keys of its sequence and those of the context, as the head's formula reads them. -/
def hq (e : Fin 64) : EReal := argQ V (ix3 b ⟨n.val * 128 + r.val, by omega⟩ ⟨g.val * 256 + u.val * 64 + e.val, by omega⟩)
def hk (t : Fin 16384) (e : Fin 64) : EReal := argK V (ix3 b t ⟨g.val * 64 + e.val, by omega⟩)
def hv (d : Fin 64) (t : Fin 16384) : EReal := argV V (ix3 b t ⟨g.val * 64 + d.val, by omega⟩)
def hkc (l : Fin 256) (e : Fin 64) : EReal := argKc V (ix3 b l ⟨g.val * 64 + e.val, by omega⟩)
def hvc (d : Fin 64) (l : Fin 256) : EReal := argVc V (ix3 b l ⟨g.val * 64 + d.val, by omega⟩)

theorem window_eq (k : Fin 384) : score V b n g u r ⟨k.val, by omega⟩
    = if valid n.val r.val k.val then ∑ e, hq V b n g u r e * hk V b g (krow n.val k.val) e else ⊥ := by
  rw [window_score]
  by_cases h : valid n.val r.val k.val
  · rw [if_pos h, if_pos h]
    refine Eq.trans (b := ∑ e : Fin 64, third (fun n r => res_main_v13 V (ix5 b n r g e)) n k * query V (ix6 b n r g u e)) rfl ?_
    refine Finset.sum_congr rfl fun e _ => ?_
    refine (mul_comm _ _).trans (congrArg₂ (· * ·) (v11_apply V b n g u r e) ?_)
    exact third_eq n r (f := fun t => hk V b g t e) (fun n r => v13_apply V b g r n e) h
  · rw [if_neg h, if_neg h]
    exact low_eq

theorem context_eq (l : Fin 256) : score V b n g u r ⟨384 + l.val, by omega⟩ = ∑ e, hq V b n g u r e * hkc V b g l e := by
  rw [context_score]
  exact Finset.sum_congr rfl fun e _ => (mul_comm _ _).trans (congrArg (· * _) (v11_apply V b n g u r e))

theorem score_ne_top (fq : ∀ i, ∃ y : ℝ, argQ V i = y) (fk : ∀ i, ∃ y : ℝ, argK V i = y) (fkc : ∀ i, ∃ y : ℝ, argKc V i = y)
    (fs : ∀ i, ∃ y : ℝ, argSink V i = y) (x : Fin 641) : score V b n g u r x ≠ ⊤ := by
  rcases lt_or_ge x.val 384 with h | h
  · rw [show x = ⟨(⟨x.val, h⟩ : Fin 384).val, by omega⟩ from rfl, window_eq]
    split_ifs
    · obtain ⟨y, hy⟩ := real_dot (hq V b n g u r) (hk V b g (krow n.val x.val)) (fun e => fq _) (fun e => fk _)
      rw [hy]
      exact EReal.coe_ne_top _
    · exact bot_ne_top
  rcases lt_or_ge x.val 640 with h' | h'
  · rw [show x = ⟨384 + (⟨x.val - 384, by omega⟩ : Fin 256).val, by dsimp only; omega⟩ from Fin.ext (by dsimp only; omega), context_eq]
    obtain ⟨y, hy⟩ := real_dot (hq V b n g u r) (hkc V b g ⟨x.val - 384, by omega⟩) (fun e => fq _) (fun e => fkc _)
    rw [hy]
    exact EReal.coe_ne_top _
  · rw [show x = ⟨640, by omega⟩ from Fin.ext (by dsimp only; omega), sink_score]
    obtain ⟨y, hy⟩ := fs (ix2 0 ⟨g.val * 4 + u.val, by omega⟩)
    rw [hy]
    exact EReal.coe_ne_top _

/-- The weighted sum of one head's coordinate, the values as numbers of their own. -/
def weighted (vw : Fin 384 → EReal) (vc : Fin 256 → EReal) : EReal :=
  (∑ k : Fin 384, vw k * weight V (ix6 b n g u r ⟨k.val, by omega⟩)) + ∑ l : Fin 256, vc l * weight V (ix6 b n g u r ⟨384 + l.val, by omega⟩)

theorem weighted_eq (vw : Fin 384 → EReal) (vc : Fin 256 → EReal) (hw : ∀ x, score V b n g u r x ≠ ⊤)
    (hs : ∃ y : ℝ, score V b n g u r ⟨640, by omega⟩ = y) : weighted V b n g u r vw vc
      = soft (fun k => score V b n g u r ⟨k.val, by omega⟩) (fun l => score V b n g u r ⟨384 + l.val, by omega⟩) (score V b n g u r ⟨640, by omega⟩) vw vc := by
  unfold weighted
  have hW : ∀ x, weight V (ix6 b n g u r x) = _ := fun x => v82_apply V b n g u r x
  simp only [hW]
  exact divided_eq_soft (score V b n g u r) vw vc hw hs rfl rfl

/-- The reference's weighted sum, each weight divided first, is the formula with one division. -/
theorem head_eq (fq : ∀ i, ∃ y : ℝ, argQ V i = y) (fk : ∀ i, ∃ y : ℝ, argK V i = y) (fkc : ∀ i, ∃ y : ℝ, argKc V i = y)
    (fs : ∀ i, ∃ y : ℝ, argSink V i = y) (d : Fin 64) :
    weighted V b n g u r (fun k => third (fun n r => res_main_v15 V (ix5 b n r g d)) n k) (hvc V b g d)
      = attn (hq V b n g u r) (hk V b g) (hv V b g d) (hkc V b g) (hvc V b g d) (argSink V (ix2 0 ⟨g.val * 4 + u.val, by omega⟩)) n.val r.val := by
  refine (weighted_eq V b n g u r _ _ (score_ne_top V b n g u r fq fk fkc fs) (by rw [sink_score]; exact fs _)).trans ?_
  refine (soft_eq_attn (hq V b n g u r) (hk V b g) (hv V b g d) (hkc V b g) n.val r.val (fun k => window_eq V b n g u r k)
    (fun l => context_eq V b n g u r l) (fun k h => third_eq n r (f := hv V b g d) (fun n r => v15_apply V b g r n d) h)).trans ?_
  rw [sink_score]

end Cert.AttnRefRow

end
-- ==== Proof.AttnRefOut.lean ====
module

public import proofs.«01_k».proof.Proof.Gen.AttnRefIdeal.Run
public import proofs.«01_k».proof.Proof.AttnRefArgs
public import proofs.«01_k».proof.Proof.FfnRows
public import Idealize.ShloMosaic.Lib.Pointwise

@[expose] public section

/-! The reference's projection of its heads and the mixed channels, read at one entry. -/

set_option maxRecDepth 16384

noncomputable section

open Idealize.ShloMosaic Idealize.ShloMosaic.TcCoe Idealize.SL.Sem
open Cert.AttnRefIdeal Cert.AttnRefIdeal.Gen Cert.AttnRefIdeal.Value Cert.AttnRows

namespace Cert.AttnRefRow

variable (V : Valuation τ sig (Elt Ideal)) (b : Fin 2)

set_option maxHeartbeats 2000000 in
theorem v94_apply (s : Fin 16384) (j : Fin 1024) : (show EReal from res_main_v94 V (ix3 b s j))
    = (∑ x : Fin 512, ((∑ k : Fin 384, third (fun n r => res_main_v15 V (ix5 b n r ⟨x.val / 256, by omega⟩ ⟨x.val % 64, by omega⟩)) ⟨s.val / 128, by omega⟩ k
            * weight V (ix6 b ⟨s.val / 128, by omega⟩ ⟨x.val / 256, by omega⟩ ⟨x.val / 64 % 4, by omega⟩ ⟨s.val % 128, by omega⟩ ⟨k.val, by omega⟩))
          + ∑ l : Fin 256, argVc V (ix3 b l ⟨x.val / 256 * 64 + x.val % 64, by omega⟩)
            * weight V (ix6 b ⟨s.val / 128, by omega⟩ ⟨x.val / 256, by omega⟩ ⟨x.val / 64 % 4, by omega⟩ ⟨s.val % 128, by omega⟩ ⟨384 + l.val, by omega⟩))
        * argW V (ix3 0 ⟨x.val, by omega⟩ j))
      + ∑ x : Fin 512, argO V (ix3 b s x) * argW V (ix3 0 ⟨512 + x.val, by omega⟩ j) := by
  unfold third
  pointwise [res_main_v94]
  try rfl

end Cert.AttnRefRow

end
-- ==== Proof.AttnRefTail.lean ====
module

public import proofs.«01_k».proof.Proof.Gen.AttnRefIdeal.Run
public import proofs.«01_k».proof.Proof.AttnRefArgs
public import proofs.«01_k».proof.Proof.FfnRows
public import Idealize.ShloMosaic.Lib.Pointwise

@[expose] public section

/-! The reference's norm and gated sum, read at one entry. -/

set_option maxRecDepth 16384

noncomputable section

open Idealize.ShloMosaic Idealize.ShloMosaic.TcCoe Idealize.SL.Sem
open Cert.AttnRefIdeal Cert.AttnRefIdeal.Gen Cert.AttnRefIdeal.Value Cert.AttnRows

namespace Cert.AttnRefRow

variable (X : FVec Ideal S2x16384x1024 .f32) (M : FVec Ideal S2x6x8x1024 .f32) (W : FVec Ideal S2x1024 .f32) (A : FVec Ideal S2x16384x1024 .f32)

/-- The norm's scale, the gate and the weights, spread over the result. -/
def scaleOf : FVec Ideal S2x16384x1 .f32 :=
  Host.rsqrt (addf (Host.divf (broadcastInDim S2x16384x1 ![0, 1] bcast_S2x16384_S2x16384x1_0_1 (Host.reduceAdd (mulf A A) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))

def gateOf : FVec Ideal S2x16384x1024 .f32 :=
  broadcastInDim S2x16384x1024 ![0, 1, 2] bcast_S2x1x1024_S2x16384x1024_0_1_2 (broadcastInDim S2x1x1024 ![0, 2] bcast_S2x1024_S2x1x1024_0_2 (shapeCast _ (extractStridedSlice S1x1x2x1024 ![0, 2, 0, 0] M slices_S2x6x8x1024_S1x1x2x1024_0_2_0_0) shapeCasts_S1x1x2x1024_S2x1024))

def gainOf : FVec Ideal S2x16384x1024 .f32 :=
  broadcastInDim S2x16384x1024 ![0, 1, 2] bcast_S1x1x1024_S2x16384x1024_0_1_2 (broadcastInDim S1x1x1024 ![2] bcast_S1024_S1x1x1024_2 (shapeCast _ (extractStridedSlice S1x1024 ![0, 0] W slices_S2x1024_S1x1024_0_0) shapeCasts_S1x1024_S1024))

def tailOf : FVec Ideal S2x16384x1024 .f32 :=
  addf X (mulf (gateOf M) (mulf (mulf A (broadcastInDim S2x16384x1024 ![0, 1, 2] bcast_S2x16384x1_S2x16384x1024_0_1_2 (scaleOf A))) (gainOf W)))

variable (b : Fin 2) (s : Fin 16384) (j : Fin 1024)

theorem scaleOf_apply : (show EReal from scaleOf A (ix3 b s 0))
    = Ideal.rsqrt (Ideal.div (∑ k : Fin 1024, A (ix3 b s k) * A (ix3 b s k)) (Ideal.ofBits .f32 0x44800000#32) + Ideal.ofBits .f32 0x358637BD#32) := by
  pointwise [scaleOf]

theorem gateOf_apply : (show EReal from gateOf M (ix3 b s j)) = M (ix4 0 2 ⟨b.val, by omega⟩ j) := by
  pointwise [gateOf]

theorem gainOf_apply : (show EReal from gainOf W (ix3 b s j)) = W (ix2 0 j) := by
  pointwise [gainOf]

theorem tailOf_apply : (show EReal from tailOf X M W A (ix3 b s j)) = X (ix3 b s j) + M (ix4 0 2 ⟨b.val, by omega⟩ j)
        * FfnRows.normed (fun j => A (ix3 b s j)) (fun j => W (ix2 0 j)) j := by
  unfold FfnRows.normed
  rw [← scaleOf_apply A b s, ← gateOf_apply M b s j]
  beta_reduce
  rw [← gainOf_apply W b s j]
  unfold tailOf
  generalize scaleOf A = S
  generalize gateOf M = N
  generalize gainOf W = U
  pointwise []

variable (V : Valuation τ sig (Elt Ideal))

theorem tail_eq : val3 V (Proc.devRef .tc main_v115) = tailOf (argX V) (argMod V) (argG V) (res_main_v94 V) :=
  val3_main_v115 V

theorem tail_apply : (show EReal from val3 V (Proc.devRef .tc main_v115) (ix3 b s j))
    = argX V (ix3 b s j) + argMod V (ix4 0 2 ⟨b.val, by omega⟩ j)
        * FfnRows.normed (fun j => res_main_v94 V (ix3 b s j)) (fun j => argG V (ix2 0 j)) j :=
  (congrFun (tail_eq V) (ix3 b s j)).trans (tailOf_apply (argX V) (argMod V) (argG V) (res_main_v94 V) b s j)

end Cert.AttnRefRow

end
-- ==== Proof.AttnEqual.lean ====
module

public import proofs.«01_k».proof.Proof.AttnFinal
public import proofs.«01_k».proof.Proof.AttnFinite
public import proofs.«01_k».proof.Proof.AttnRefHead
public import proofs.«01_k».proof.Proof.AttnRefOut
public import proofs.«01_k».proof.Proof.AttnRefTail
public import Idealize.ShloMosaic.Lib.Claim

@[expose] public section

/-! The attention's value: where the scores are real, the kernel's result is the reference's. -/

set_option maxRecDepth 16384

noncomputable section

open Idealize.ShloMosaic Idealize.ShloMosaic.TcCoe Idealize.SL.Sem

namespace Cert.AttnRefRow

open Cert.AttnRefIdeal Cert.AttnRefIdeal.Gen Cert.AttnRefIdeal.Value Cert.AttnRows Cert.AttnFinal

variable (V : Valuation τ sig (Elt Ideal)) (b : Fin 2) (s : Fin 16384) (j : Fin 1024)

/-- The reference's result at one entry is the formula of the kernel's. -/
theorem result_apply (fq : ∀ i, ∃ y : ℝ, argQ V i = y) (fk : ∀ i, ∃ y : ℝ, argK V i = y) (fkc : ∀ i, ∃ y : ℝ, argKc V i = y)
    (fs : ∀ i, ∃ y : ℝ, argSink V i = y) : (show EReal from val3 V (Proc.devRef .tc main_v115) (ix3 b s j))
      = G (argX V) (argMod V) (argG V) (argSink V) (argW V) (argQ V) (argK V) (argV V) (argKc V) (argVc V) (argO V) b s j := by
  refine (tail_apply b s j V).trans ?_
  unfold G AttnBlock.outRow
  refine congrArg (fun F => argX V (ix3 b s j) + argMod V (ix4 0 2 ⟨b.val, by omega⟩ j) * FfnRows.normed F (fun j => argG V (ix2 0 j)) j) (funext fun j => ?_)
  refine (v94_apply V b s j).trans (congrArg (· + _) (Finset.sum_congr rfl fun x _ => congrArg (· * _) ?_))
  have hx := x.isLt
  have hs := s.isLt
  refine (head_eq V b ⟨s.val / 128, by omega⟩ ⟨x.val / 256, by omega⟩ ⟨x.val / 64 % 4, by omega⟩ ⟨s.val % 128, by omega⟩ fq fk fkc fs
    ⟨x.val % 64, by omega⟩).trans ?_
  refine attn_congr (fun d => ?_) (fun t d => ?_) (fun t => ?_) (fun l d => ?_) (fun l => ?_) ?_ rfl rfl
  · exact congrArg₂ (fun y z => argQ V (ix3 b y z)) (Fin.ext (by dsimp only; omega)) (Fin.ext (by dsimp only; omega))
  · exact congrArg (fun z => argK V (ix3 b t z)) (Fin.ext (by dsimp only; omega))
  · exact congrArg (fun z => argV V (ix3 b t z)) (Fin.ext (by dsimp only; omega))
  · exact congrArg (fun z => argKc V (ix3 b l z)) (Fin.ext (by dsimp only; omega))
  · exact congrArg (fun z => argVc V (ix3 b l z)) (Fin.ext (by dsimp only; omega))
  · exact congrArg (fun z => argSink V (ix2 0 z)) (Fin.ext (by dsimp only; omega))

end Cert.AttnRefRow

namespace Cert.AttnEqual

theorem equal : Cert.algebraic_AttnIdeal_AttnRefIdeal_pre_finite_scores (hAttnIdeal := Cert.AttnIdeal.Gen.facts)
    (hAttnRefIdeal := Cert.AttnRefIdeal.Gen.facts) (hPre_finite_scores := AttnFinite.facts) := by
  intro m g m' g' hp hag
  refine ⟨fun c => AttnFinal.result m c, ?_, ?_⟩
  · exact (θ_run _ _ _).mono (fun r h c => ⟨(h c).1.trans (AttnFinal.final m c), (h c).2⟩) (Cert.AttnIdeal.Value.run_blocks m g)
  · refine (θ_run _ _ _).mono (fun r h c => ⟨((h c).1.trans (Cert.AttnRefIdeal.Value.val3_main_v115 (Idealize.ShloMosaic.StableHlo.launchContents m' c)).symm).trans ?_,
      (h c).2⟩) (Cert.AttnRefIdeal.Value.run m' g')
    obtain ⟨a0, a1, a2, a3, a4, a5, a6, a7, a8, a9, a10⟩ := hag c
    have hf := AttnFinite.open_pre (congrFun (hp c) _)
    rw [← a3, ← a5, ← a6, ← a8] at hf
    obtain ⟨fq, fk, fkc, fs⟩ := hf
    funext i
    idx_vars i
    refine (AttnRefRow.result_apply (Idealize.ShloMosaic.StableHlo.launchContents m' c) i0 i1 i2 fq fk fkc fs).trans ?_
    unfold AttnFinal.result
    rw [← a0, ← a1, ← a2, ← a3, ← a4, ← a5, ← a6, ← a7, ← a8, ← a9, ← a10]
    rfl

end Cert.AttnEqual

end
-- ==== Proof.lean ====
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.AttnIdeal.Value
public import proofs.«01_k».proof.Proof.Gen.FfnIdeal.Value
public import proofs.«01_k».proof.Proof.Gen.AttnRefIdeal.Run
public import proofs.«01_k».proof.Proof.Gen.AttnRefIdeal.Read
public import proofs.«01_k».proof.Proof.Gen.FfnRefIdeal.Run
public import proofs.«01_k».proof.Proof.Gen.Conv.Frame
public import proofs.«01_k».proof.Proof.Gen.ConvRefIdeal.Read
public import proofs.«01_k».proof.Proof.Gen.ConvIdeal.Value
public import proofs.«01_k».proof.Proof.Gen.ConvRefIdeal.Run
public import proofs.«01_k».proof.Proof.Gen.FfnRefIdeal.Read
public import proofs.«01_k».proof.Proof.Gen.Ctx.Frame
public import proofs.«01_k».proof.Proof.Gen.CtxIdeal.Value
public import proofs.«01_k».proof.Proof.Gen.CtxRefIdeal.Run
public import proofs.«01_k».proof.Proof.Gen.CtxRefIdeal.Read
public import proofs.«01_k».proof.Proof.Gen.Mod.Frame
public import proofs.«01_k».proof.Proof.Gen.ModIdeal.Value
public import proofs.«01_k».proof.Proof.Gen.ModRefIdeal.Run
public import proofs.«01_k».proof.Proof.Gen.ModRefIdeal.Read
public import proofs.«01_k».proof.Proof.FfnClaim
public import proofs.«01_k».proof.Proof.ConvClaim
public import proofs.«01_k».proof.Proof.CtxClaim
public import proofs.«01_k».proof.Proof.ModClaim
public import proofs.«01_k».proof.Proof.AttnClaim
public import proofs.«01_k».proof.Proof.AttnEqual
public import Idealize.ShloMosaic.Adequacy
public import Idealize.ShloMosaic.Init

@[expose] public section

noncomputable section

namespace Cert.Proof

open Idealize.ShloMosaic Idealize.SL.Sem Cert.Attn

theorem claim : Cert.Claim := ⟨Cert.Attn.Gen.facts, Cert.AttnIdeal.Gen.facts, Cert.AttnRefIdeal.Gen.facts, Cert.Ffn.Gen.facts, Cert.FfnIdeal.Gen.facts, Cert.FfnRefIdeal.Gen.facts,
  Cert.Conv.Gen.facts, Cert.ConvIdeal.Gen.facts, Cert.ConvRefIdeal.Gen.facts,
  Cert.Ctx.Gen.facts, Cert.CtxIdeal.Gen.facts, Cert.CtxRefIdeal.Gen.facts,
  Cert.Mod.Gen.facts, Cert.ModIdeal.Gen.facts, Cert.ModRefIdeal.Gen.facts, AttnFinite.facts, ModFinite.facts, by
  exact ⟨fun m ρ _ => Cert.Attn.Gen.frame m ρ, fun m ρ _ => Cert.AttnIdeal.Gen.frame m ρ, fun m ρ _ => Cert.AttnIdeal.Gen.frame m ρ,
    AttnClaim.reference_runs, fun m g _ => AttnClaim.reference_runs m g trivial,
    fun m ρ _ => Cert.Ffn.Gen.frame m ρ, fun m ρ _ => Cert.FfnIdeal.Gen.frame m ρ, FfnClaim.reference_runs,
    fun m ρ _ => Cert.Conv.Gen.frame m ρ, fun m ρ _ => Cert.ConvIdeal.Gen.frame m ρ, ConvClaim.reference_runs,
    fun m ρ _ => Cert.Ctx.Gen.frame m ρ, fun m ρ _ => Cert.CtxIdeal.Gen.frame m ρ, CtxClaim.reference_runs,
    fun m ρ _ => Cert.Mod.Gen.frame m ρ, fun m ρ _ => Cert.ModIdeal.Gen.frame m ρ, fun m ρ _ => Cert.ModIdeal.Gen.frame m ρ,
    ModClaim.reference_runs, fun m g _ => ModClaim.reference_runs m g trivial,
    AttnClaim.named, AttnEqual.equal, trivial, FfnClaim.equal, trivial, ConvClaim.equal, trivial, CtxClaim.equal, trivial, ModClaim.equal⟩⟩

end Cert.Proof

end
